-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S16384x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_ids_in_range_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S32768x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S16384x1024 : Shape := ⟨2, ![16384, 1024]⟩
abbrev S2048x1 : Shape := ⟨2, ![2048, 1]⟩
abbrev S2048x1024 : Shape := ⟨2, ![2048, 1024]⟩
abbrev S512x1024 : Shape := ⟨2, ![512, 1024]⟩
abbrev S4x512x1024 : Shape := ⟨3, ![4, 512, 1024]⟩
abbrev S_ : Shape := ⟨0, ![]⟩
abbrev S4 : Shape := ⟨1, ![4]⟩
abbrev S1 : Shape := ⟨1, ![1]⟩
abbrev S1x1024 : Shape := ⟨2, ![1, 1024]⟩
abbrev S512x1 : Shape := ⟨2, ![512, 1]⟩
abbrev S1x512x1024 : Shape := ⟨3, ![1, 512, 1024]⟩

abbrev nBuf : Space → Nat
  | .hbm => 4
  | .vmem => 5
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S2048x1, .i32⟩
  | .hbm, ⟨3, _⟩ => ⟨S2048x1024, .f32⟩
  | .local _ .vmem, ⟨0, _⟩ => ⟨S2048x1, .i32⟩
  | .local _ .vmem, ⟨1, _⟩ => ⟨S2048x1024, .f32⟩
  | .local _ .vmem, ⟨2, _⟩ => ⟨S512x1024, .f32⟩
  | .local _ .vmem, ⟨3, _⟩ => ⟨S4x512x1024, .bf16⟩
  | .local _ .vmem, ⟨4, _⟩ => ⟨S512x1024, .bf16⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 2 → Bool
  | ⟨0, _⟩ => false
  | ⟨1, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_4 v2
  let c4_i32_8 : BitVec 32 := 4#32
  let v17 : BitVec 32 := Scalar.muli v13 c4_i32_8
  let v18 : BitVec 32 := Scalar.addi c0_i32 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v19 : BitVec 32 := Scalar.muli v5 c2_i32_9
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v21 : BitVec 32 := Scalar.muli v8 c1_i32_10
  let v22 : BitVec 32 := Scalar.addi v20 v21
  v22.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v23 : BitVec 32 := Scalar.muli v2 c4_i32_12
  let v24 : BitVec 32 := Scalar.addi c0_i32_13 v23
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_14 : BitVec 32 := 2#32
  let v25 : BitVec 32 := Scalar.muli v14 c2_i32_14
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v27 : BitVec 32 := Scalar.muli v8 c1_i32_15
  let v28 : BitVec 32 := Scalar.addi v26 v27
  v28.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v29 : BitVec 32 := Scalar.muli v2 c4_i32_17
  let v30 : BitVec 32 := Scalar.addi c0_i32_18 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_20 : BitVec 32 := 1#32
  let v33 : BitVec 32 := Scalar.muli v15 c1_i32_20
  let v34 : BitVec 32 := Scalar.addi v32 v33
  v34.toNat
@[reducible] def k0_t1_loop : Scf.Loop 32 :=
  let c0_i32_21 : BitVec 32 := 0#32
  let c512_i32_22 : BitVec 32 := 512#32
  let v35 : BitVec 32 := Scalar.addi c0_i32_21 c512_i32_22
  let c1_i32_23 : BitVec 32 := 1#32
  ⟨c0_i32_21, v35, c1_i32_23⟩
def k0_off1 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c512_i32 : BitVec 32 := 512#32
  let v11 : BitVec 32 := Scalar.muli v10 c512_i32
  let c0_i32_21 : BitVec 32 := 0#32
  let c1_i32_23 : BitVec 32 := 1#32
  let arg10 : BitVec 32 := Scf.iv c0_i32_21 c1_i32_23 k0_t1
  let v206 : BitVec 32 := Scalar.addi v11 arg10
  let v207 : Index := Scalar.indexCast v206
  ![v207.toNat]
def k0_off2 (k0_t1 : Fin k0_t1_loop.trips) : Fin 2 → Nat :=
  let c0_i32_21 : BitVec 32 := 0#32
  let c1_i32_23 : BitVec 32 := 1#32
  let arg10 : BitVec 32 := Scf.iv c0_i32_21 c1_i32_23 k0_t1
  let c0_i32_160 : BitVec 32 := 0#32
  ![arg10.toNat, 0]
def k0_off3 (d0 : Dev nD) (v208 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32 : BitVec 32 := 16384#32
  let v12 : BitVec 32 := Scalar.muli v5 c16384_i32
  let v209 : BitVec 32 := Scalar.subi v208 v12
  let c0_i32_157 : BitVec 32 := 0#32
  let v210 : BitVec 1 := Scalar.cmpi .sge v209 c0_i32_157
  let c16384_i32_158 : BitVec 32 := 16384#32
  let v211 : BitVec 1 := Scalar.cmpi .slt v209 c16384_i32_158
  let v212 : BitVec 1 := Scalar.andi v210 v211
  let c0_i32_159 : BitVec 32 := 0#32
  let v213 : BitVec 32 := Scalar.select v212 v209 c0_i32_159
  let c0_i32_161 : BitVec 32 := 0#32
  ![v213.toNat, 0]

def k0_chk1 (d0 : Dev nD) (v208 : BitVec 32) : Prop :=
  (∀ a, (k0_off3 d0 v208) a + S1x1024.size a ≤ S16384x1024.size a)
theorem k0_off3_inb : ∀ (d0 : Dev nD) (v208 : BitVec 32) (k0_hw1 : k0_chk1 d0 v208), ∀ a, (k0_off3 d0 v208) a + S1x1024.size a ≤ S16384x1024.size a := fun d0 v208 k0_hw1 => k0_hw1

@[reducible] def k0_t2_loop : Scf.Loop 32 :=
  let c0_i32_25 : BitVec 32 := 0#32
  let c512_i32_26 : BitVec 32 := 512#32
  let v36 : BitVec 32 := Scalar.addi c0_i32_25 c512_i32_26
  let c1_i32_27 : BitVec 32 := 1#32
  ⟨c0_i32_25, v36, c1_i32_27⟩
def k0_off4 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c512_i32 : BitVec 32 := 512#32
  let v11 : BitVec 32 := Scalar.muli v10 c512_i32
  let v37 : Index := Scalar.indexCast v11
  let c0 : Index := 0#32
  ![v37.toNat, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v53 : Index := Scalar.indexCast v10
  let c0_31 : Index := 0#32
  let c0_32 : Index := 0#32
  ![v53.toNat, 0, 0]
def k0_off6 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_39 : BitVec 32 := 0#32
  let c0_i32_40 : BitVec 32 := 0#32
  ![v10.toNat, 0, 0]
def k0_dev4 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v57 : BitVec 32 := Scalar.muli v2 c4_i32_35
  let v58 : BitVec 32 := Scalar.addi c0_i32_36 v57
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_37 : BitVec 32 := 2#32
  let v59 : BitVec 32 := Scalar.muli v14 c2_i32_37
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v61 : BitVec 32 := Scalar.muli v8 c1_i32_38
  let v62 : BitVec 32 := Scalar.addi v60 v61
  v62.toNat
def k0_dev5 (d0 : Dev nD) : Nat :=
  let c0_i32_63 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_4 v2
  let c4_i32_62 : BitVec 32 := 4#32
  let v92 : BitVec 32 := Scalar.muli v13 c4_i32_62
  let v93 : BitVec 32 := Scalar.addi c0_i32_63 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v94 : BitVec 32 := Scalar.muli v5 c2_i32_64
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v96 : BitVec 32 := Scalar.muli v8 c1_i32_65
  let v97 : BitVec 32 := Scalar.addi v95 v96
  v97.toNat
def k0_off7 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_95 : BitVec 32 := 0#32
  let c0_i32_96 : BitVec 32 := 0#32
  ![v8.toNat, 0, 0]
def k0_dev6 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v126 : BitVec 32 := Scalar.muli v2 c4_i32_91
  let v127 : BitVec 32 := Scalar.addi c0_i32_92 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v128 : BitVec 32 := Scalar.muli v5 c2_i32_93
  let v129 : BitVec 32 := Scalar.addi v127 v128
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_94 : BitVec 32 := 1#32
  let v130 : BitVec 32 := Scalar.muli v15 c1_i32_94
  let v131 : BitVec 32 := Scalar.addi v129 v130
  v131.toNat
def k0_off8 (d0 : Dev nD) : Fin 3 → Nat :=
  let c2_i32_88 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v125 : BitVec 32 := Scalar.addi c2_i32_88 v8
  let c0_i32_105 : BitVec 32 := 0#32
  let c0_i32_106 : BitVec 32 := 0#32
  ![v125.toNat, 0, 0]
def k0_dev7 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v140 : BitVec 32 := Scalar.muli v2 c4_i32_101
  let v141 : BitVec 32 := Scalar.addi c0_i32_102 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v142 : BitVec 32 := Scalar.muli v5 c2_i32_103
  let v143 : BitVec 32 := Scalar.addi v141 v142
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_104 : BitVec 32 := 1#32
  let v144 : BitVec 32 := Scalar.muli v15 c1_i32_104
  let v145 : BitVec 32 := Scalar.addi v143 v144
  v145.toNat
def k0_dev8 (d0 : Dev nD) : Nat :=
  let c0_i32_159_r0 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_4 v2
  let c4_i32_158_r0 : BitVec 32 := 4#32
  let v207_r0 : BitVec 32 := Scalar.muli v13 c4_i32_158_r0
  let v208_r0 : BitVec 32 := Scalar.addi c0_i32_159_r0 v207_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160_r0 : BitVec 32 := 2#32
  let v209_r0 : BitVec 32 := Scalar.muli v5 c2_i32_160_r0
  let v210_r0 : BitVec 32 := Scalar.addi v208_r0 v209_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161_r0 : BitVec 32 := 1#32
  let v211_r0 : BitVec 32 := Scalar.muli v8 c1_i32_161_r0
  let v212_r0 : BitVec 32 := Scalar.addi v210_r0 v211_r0
  v212_r0.toNat
def k0_dev9 (d0 : Dev nD) : Nat :=
  let c0_i32_164_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163_r0 : BitVec 32 := 4#32
  let v213_r0 : BitVec 32 := Scalar.muli v2 c4_i32_163_r0
  let v214_r0 : BitVec 32 := Scalar.addi c0_i32_164_r0 v213_r0
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_165_r0 : BitVec 32 := 2#32
  let v215_r0 : BitVec 32 := Scalar.muli v14 c2_i32_165_r0
  let v216_r0 : BitVec 32 := Scalar.addi v214_r0 v215_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166_r0 : BitVec 32 := 1#32
  let v217_r0 : BitVec 32 := Scalar.muli v8 c1_i32_166_r0
  let v218_r0 : BitVec 32 := Scalar.addi v216_r0 v217_r0
  v218_r0.toNat
def k0_dev10 (d0 : Dev nD) : Nat :=
  let c0_i32_169_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168_r0 : BitVec 32 := 4#32
  let v219_r0 : BitVec 32 := Scalar.muli v2 c4_i32_168_r0
  let v220_r0 : BitVec 32 := Scalar.addi c0_i32_169_r0 v219_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170_r0 : BitVec 32 := 2#32
  let v221_r0 : BitVec 32 := Scalar.muli v5 c2_i32_170_r0
  let v222_r0 : BitVec 32 := Scalar.addi v220_r0 v221_r0
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_171_r0 : BitVec 32 := 1#32
  let v223_r0 : BitVec 32 := Scalar.muli v15 c1_i32_171_r0
  let v224_r0 : BitVec 32 := Scalar.addi v222_r0 v223_r0
  v224_r0.toNat
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Take.Contents.lean ====
/-
# The mesh's devices, the buffers' views and what each buffer holds

Device `c = 4x + 2y + z` of the 2 × 2 × 2 mesh handles quarter `q = 2x + z` of the tokens. It holds the half of the table
its `y` names, gathers its quarter's rows into the gather buffer, zeroes the rows that lie in the other half, and exchanges
the quarter with its `y`, `x` and `z` neighbours until each device holds all four quarters. This module names those contents as
functions of the arrays at the region's entry, and says which elements each slot of the accumulator has.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## Devices -/

/-- The device across axis `d` (0 is x, 1 is y, 2 is z). -/
def nb (d : Fin 3) (c : Dev nD) : Dev nD :=
  match d with
  | 0 => ⟨(2 * ((c.val / 2) % 2) + (c.val % 2) + 4) - 4 * (c.val / 4), by revert c; decide⟩
  | 1 => ⟨(4 * (c.val / 4) + (c.val % 2) + 2) - 2 * ((c.val / 2) % 2), by revert c; decide⟩
  | 2 => ⟨(4 * (c.val / 4) + 2 * ((c.val / 2) % 2) + 1) - (c.val % 2), by revert c; decide⟩
/-- Crossing an axis twice comes back. -/
theorem nb_nb (d : Fin 3) (c : Dev nD) : nb d (nb d c) = c := by revert d c; decide
/-- Crossing axis `d`, as a permutation of the devices. -/
def nbEquiv (d : Fin 3) : Dev nD ≃ Dev nD := ⟨nb d, nb d, nb_nb d, nb_nb d⟩
/-- The quarter of the tokens device `c` handles. -/
def qOf (c : Dev nD) : Fin 4 := ⟨2 * (c.val / 4) + c.val % 2, by revert c; decide⟩
/-- The half of the table device `c` holds. -/
def yOf (c : Dev nD) : Fin 2 := ⟨(c.val / 2) % 2, by revert c; decide⟩
/-- The first slot of device `c`'s z plane. -/
def zLo (c : Dev nD) : Fin 4 := ⟨c.val % 2, by revert c; decide⟩
/-- The second slot of device `c`'s z plane. -/
def zHi (c : Dev nD) : Fin 4 := ⟨c.val % 2 + 2, by revert c; decide⟩
/-- The device that handles quarter `s` and holds half `y`. -/
def mkDev (s : Fin 4) (y : Fin 2) : Dev nD := ⟨4 * (s.val / 2) + 2 * y.val + s.val % 2, by revert s y; decide⟩
theorem mkDev_q_y (c : Dev nD) : mkDev (qOf c) (yOf c) = c := by revert c; decide
theorem qOf_mkDev (s : Fin 4) (y : Fin 2) : qOf (mkDev s y) = s := by revert s y; decide
theorem yOf_mkDev (s : Fin 4) (y : Fin 2) : yOf (mkDev s y) = y := by revert s y; decide
theorem yOf_nb0 (c : Dev nD) : yOf (nb 0 c) = yOf c := by revert c; decide
theorem yOf_nb2 (c : Dev nD) : yOf (nb 2 c) = yOf c := by revert c; decide
theorem qOf_nb1 (c : Dev nD) : qOf (nb 1 c) = qOf c := by revert c; decide
theorem yOf_nb1 (c : Dev nD) : yOf (nb 1 c) = 1 - yOf c := by revert c; decide

/-! ## Views -/

abbrev idsM : Memref sig .tc .smem S2048 .i32 := Memref.whole cc0_stg0_0
abbrev idvM : Memref sig .tc .vmem S2048x1 .i32 := Memref.whole cc0_stg1_0
abbrev eM : Memref sig .tc .hbm S16384x1024 .f32 := Memref.whole main_arg1
abbrev outM : Memref sig .tc .vmem S2048x1024 .f32 := Memref.whole cc0_stg2_0
abbrev gM : Memref sig .tc .vmem S512x1024 .f32 := Memref.whole cc0_scratch0
abbrev accM : Memref sig .tc .vmem S4x512x1024 .bf16 := Memref.whole cc0_scratch1
abbrev yM : Memref sig .tc .vmem S512x1024 .bf16 := Memref.whole cc0_scratch2

/-- The accumulator's rectangle of one slot at offsets `o`. -/
abbrev slotR (o : Fin 3 → ℕ) (h : ∀ a, o a + S1x512x1024.size a ≤ S4x512x1024.size a) : Rect S4x512x1024 :=
  Rect.unit (s := S4x512x1024) o S1x512x1024.size h
/-- The accumulator's slot at offsets `o`, as the copies name it. -/
abbrev slotM (o : Fin 3 → ℕ) (h : ∀ a, o a + S1x512x1024.size a ≤ S4x512x1024.size a) : Memref sig .tc .vmem S512x1024 .bf16 :=
  (accM.slice (slotR o h) (fun _ => rfl)).squeeze S512x1024 squeezes_S1x512x1024_S512x1024
/-- Slot `s` starts at row-block `s`. -/
abbrev slotO (s : Fin 4) : Fin 3 → ℕ := ![s.val, 0, 0]
theorem slotO_inb (s : Fin 4) : ∀ a, slotO s a + S1x512x1024.size a ≤ S4x512x1024.size a := by revert s; decide

/-- The elements of slot `s`. -/
def slotSet (s : Fin 4) : Finset S4x512x1024.Idx := Finset.univ.filter fun p : S4x512x1024.Idx => (p 0).val = s.val
theorem mem_slotSet (s : Fin 4) (p : S4x512x1024.Idx) : p ∈ slotSet s ↔ p 0 = s := by
  unfold slotSet; simp only [Finset.mem_filter, Finset.mem_univ, true_and]; exact (Fin.ext_iff (a := p 0) (b := s)).symm

/-- The slot's rectangle has the slot's elements. -/
theorem slotR_set (s : Fin 4) (h) : (slotR (slotO s) h).set = slotSet s := by
  ext p
  rw [mem_slotSet, Rect.mem_set_unit]
  constructor
  · intro hp
    have h0 := hp 0
    apply Fin.ext
    have h1 : s.val ≤ (p 0).val := h0.1
    have h2 : (p 0).val < s.val + 1 := h0.2
    omega
  · intro hp a
    match a with
    | ⟨0, _⟩ => rw [← hp]; exact ⟨le_refl _, Nat.lt_succ_self _⟩
    | ⟨1, _⟩ => exact ⟨Nat.zero_le _, by show (p 1).val < 0 + 512; have : (p 1).val < 512 := (p 1).isLt; omega⟩
    | ⟨2, _⟩ => exact ⟨Nat.zero_le _, by show (p 2).val < 0 + 1024; have : (p 2).val < 1024 := (p 2).isLt; omega⟩

/-- A copy through the slot's view touches the slot's elements. -/
theorem slotM_set (s : Fin 4) (h) : (slotM (slotO s) h).view.set = slotSet s :=
  ((View.set_reshape _ _).trans (View.set_slice_whole _ _)).trans (slotR_set s h)
/-- So does a store through its rectangle. -/
theorem slotA_set (s : Fin 4) (h) : (accM.access (slotR (slotO s) h)).set = slotSet s :=
  (View.set_slice_whole _ _).trans (slotR_set s h)

/-- The four slots are the whole accumulator. -/
theorem slots_univ : (Finset.univ : Finset S4x512x1024.Idx) = Finset.univ.biUnion slotSet := by
  ext p
  simp only [Finset.mem_univ, Finset.mem_biUnion, true_and, true_iff]
  exact ⟨p 0, (mem_slotSet _ _).mpr rfl⟩
theorem slots_disjoint : ∀ s ∈ (Finset.univ : Finset (Fin 4)), ∀ s' ∈ (Finset.univ : Finset (Fin 4)), s ≠ s' → Disjoint (slotSet s) (slotSet s') := by
  intro s _ s' _ hne
  rw [Finset.disjoint_left]
  intro p hp hp'
  exact hne (((mem_slotSet _ _).mp hp).symm.trans ((mem_slotSet _ _).mp hp'))

/-! ## Reads and writes through a slot -/

/-- The place of a slot's element `(u, i, j)` in the accumulator. -/
theorem slotR_emb (s : Fin 4) (h) (x : S1x512x1024.Idx) : (slotR (slotO s) h).emb x = ix3 s (x 1) (x 2) := by
  funext a
  match a with
  | ⟨0, _⟩ => exact Fin.ext (by show s.val + 1 * (x 0).val = s.val; have : (x 0).val < 1 := (x 0).isLt; omega)
  | ⟨1, _⟩ => exact Fin.ext (by show 0 + 1 * (x 1).val = (x 1).val; omega)
  | ⟨2, _⟩ => exact Fin.ext (by show 0 + 1 * (x 2).val = (x 2).val; omega)

/-- The place of `(i, j)` through the squeezed slot. -/
theorem slotM_emb (s : Fin 4) (h) (x : S512x1024.Idx) : (slotM (slotO s) h).view.emb x = ix3 s (x 0) (x 1) := by
  show (slotR (slotO s) h).emb (Shape.reshapeEquiv _ x) = _
  rw [slotR_emb]
  obtain ⟨a, b, rfl⟩ : ∃ a b, x = ix2 a b := ⟨_, _, eq_ix2 x⟩
  have e := reshapeEquiv_ix2_1ab (Shape.Squeezes.numel_eq squeezes_S1x512x1024_S512x1024) a b
  erw [e]
  rfl

/-- A load of slot `s` reads the accumulator at the slot's elements. -/
theorem slotR_readAt (s : Fin 4) (h) (f : (accM.view.ty).Contents (Elt F)) :
    accM.view.readAt (Elt F) (slotR (slotO s) h).toLoadRect f = fun x : S1x512x1024.Idx => f (ix3 s (x 1) (x 2)) := by
  funext x
  show f ((slotR (slotO s) h).emb x) = _
  rw [slotR_emb]
  rfl

/-- A copy out of slot `s` reads it so. -/
theorem slotM_read (s : Fin 4) (h) (f : (accM.view.ty).Contents (Elt F)) :
    (slotM (slotO s) h).view.read (Elt F) f = fun x : S512x1024.Idx => f (ix3 s (x 0) (x 1)) := by
  funext x
  show f ((slotM (slotO s) h).view.emb x) = _
  rw [slotM_emb]
  rfl

/-- A copy into slot `s` of what `g` holds in slot `s` leaves `g` there. -/
theorem slotM_write_read (s : Fin 4) (h) (f g : (accM.view.ty).Contents (Elt F)) :
    ∀ p ∈ slotSet s, (slotM (slotO s) h).view.write (Elt F) f ((slotM (slotO s) h).view.read (Elt F) g) Finset.univ p = g p := by
  intro p hp
  rw [← slotM_set s h] at hp
  obtain ⟨x, -, rfl⟩ := Finset.mem_map.mp hp
  rw [View.write_emb_of_mem _ _ (Finset.mem_univ x)]
  rfl

/-- A store of `w` into slot `s` leaves `w`'s elements there. -/
theorem slotA_write (s : Fin 4) (h) (f : (accM.view.ty).Contents (Elt F)) (w : S1x512x1024.Idx → Elt F .bf16) :
    ∀ p ∈ slotSet s, (accM.access (slotR (slotO s) h)).write (Elt F) f w Finset.univ p = w (ix3 (0 : Fin 1) (p 1) (p 2)) := by
  intro p hp
  have hp' := hp
  rw [← slotA_set s h] at hp
  obtain ⟨x, -, rfl⟩ := Finset.mem_map.mp hp
  rw [View.write_emb_of_mem _ _ (Finset.mem_univ x)]
  show w x = _
  have e : (accM.access (slotR (slotO s) h)).emb x = ix3 s (x 1) (x 2) := slotR_emb s h x
  rw [e]
  have h0 : x 0 = (0 : Fin 1) := Subsingleton.elim (α := Fin 1) _ _
  conv_lhs => rw [eq_ix3 x, h0]
  rfl

/-! ## Contents -/

/-- The first row of the half of the table device `c` holds, as the body's word. -/
def vlo (c : Dev nD) : BitVec 32 := Scalar.muli (Scalar.remsi (Scalar.divsi (Dev.word c) 2#32) 2#32) 16384#32
/-- Token `t` of device `c`'s quarter. -/
def tok (c : Dev nD) (t : Fin 512) : Fin 2048 := ⟨512 * (qOf c).val + t.val, by have := (qOf c).isLt; omega⟩
/-- The row of its half of the table device `c` fetches for the id `w`. -/
def rowOf (c : Dev nD) (w : BitVec 32) : Fin 16384 := ⟨k0_off3 c w 0, by have := k0_chk1_all c w 0; have h : S1x1024.size 0 = 1 := rfl; have h' : S16384x1024.size 0 = 16384 := rfl; omega⟩
/-- What the gather buffer holds after the fetches. -/
def gath (c : Dev nD) : S512x1024.Idx → Elt F .f32 :=
  fun p => V m c main_arg1 (ix2 (rowOf c (V m c main_arg0 (ix1 (tok c (p 0))))) (p 1))
/-- The ids of device `c`'s quarter, as a column. -/
def idcol (c : Dev nD) : S512x1.Idx → Elt F .i32 := fun p => V m c main_v1 (ix2 (tok c (p 0)) (p 1))
/-- Device `c`'s partial rows: the fetched rows, zero where the id lies in the other half. -/
def partV (c : Dev nD) : S1x512x1024.Idx → Elt F .bf16 := k0_pay1 (vlo c) (idcol m c) (gath m c)
/-- The partial rows as the accumulator's contents (in every slot alike). -/
def partAcc (c : Dev nD) : S4x512x1024.Idx → Elt F .bf16 := fun p => partV m c (ix3 (0 : Fin 1) (p 1) (p 2))
/-- The partial rows as the exchange buffer's contents. -/
def partY (c : Dev nD) : S512x1024.Idx → Elt F .bf16 := fun p => partV m c (ix3 (0 : Fin 1) (p 0) (p 1))
/-- Device `c`'s rows: its partial rows plus its y neighbour's. -/
def sumV (c : Dev nD) : S1x512x1024.Idx → Elt F .bf16 := k0_pay2 (partV m c) (partY m (nb 1 c))
/-- The accumulator at the end: slot `s` holds the rows of the device of quarter `s` with the same half. -/
def fin (y : Fin 2) : S4x512x1024.Idx → Elt F .bf16 := fun p => sumV m (mkDev (p 0) y) (ix3 (0 : Fin 1) (p 1) (p 2))
/-- Slot `s` of the final accumulator as a vector. -/
def finSlot (y : Fin 2) (s : Fin 4) : S1x512x1024.Idx → Elt F .bf16 := fun x => fin m y (ix3 s (x 1) (x 2))
/-- The result: row `512 s + t` is row `t` of slot `s`, widened. -/
def outV (y : Fin 2) : S2048x1024.Idx → Elt F .f32 :=
  fun p => k0_pay3 (finSlot m y ⟨(p 0).val / 512, by have := idx2_lt0 p; omega⟩) (ix2 (⟨(p 0).val % 512, Nat.mod_lt _ (by decide)⟩ : Fin 512) (p 1))

/-! ## Steps between contents -/

theorem slotR_partAcc (s : Fin 4) (h) (c : Dev nD) : accM.view.readAt (Elt F) (slotR (slotO s) h).toLoadRect (partAcc m c) = partV m c := by
  rw [slotR_readAt]
  funext x
  show partV m c (ix3 (0 : Fin 1) (x 1) (x 2)) = partV m c x
  have h0 : x 0 = (0 : Fin 1) := Subsingleton.elim (α := Fin 1) _ _
  conv_rhs => rw [eq_ix3 x, h0]
  rfl

/-- Reading only the slot, two contents that agree there give one vector. -/
theorem slotR_readAt_congr (s : Fin 4) (h) {f g : (accM.view.ty).Contents (Elt F)} (e : ∀ p ∈ slotSet s, f p = g p) :
    accM.view.readAt (Elt F) (slotR (slotO s) h).toLoadRect f = accM.view.readAt (Elt F) (slotR (slotO s) h).toLoadRect g := by
  rw [slotR_readAt, slotR_readAt]
  funext x
  exact e _ ((mem_slotSet _ _).mpr rfl)

/-- A slot of partial rows copied into the exchange buffer. -/
theorem y_write (s : Fin 4) (h) (c : Dev nD) (f : (yM.view.ty).Contents (Elt F)) :
    yM.view.write (Elt F) f ((slotM (slotO s) h).view.read (Elt F) (partAcc m c)) Finset.univ = partY m c := by
  rw [slotM_read]
  exact View.write_whole_univ _ _ _

/-- The store of the masked rows leaves the partial rows in the slot. -/
theorem part_store (s : Fin 4) (h) (c : Dev nD) (f : (accM.view.ty).Contents (Elt F)) :
    ∀ p ∈ slotSet s, (accM.access (slotR (slotO s) h)).write (Elt F) f (k0_pay1 (vlo c) (idcol m c) (gath m c)) Finset.univ p = partAcc m c p :=
  slotA_write s h f _

/-- The store of the sum leaves the device's rows in its slot. -/
theorem sum_store (c : Dev nD) (h : ∀ a, slotO (qOf c) a + S1x512x1024.size a ≤ S4x512x1024.size a) (f : (accM.view.ty).Contents (Elt F)) :
    ∀ p : S4x512x1024.Idx, p ∈ slotSet (qOf c) → (accM.access (slotR (slotO (qOf c)) h)).write (Elt F) f (k0_pay2 (partV m c) (partY m (nb 1 c))) Finset.univ p = fin m (yOf c) p := by
  intro p hp
  rw [slotA_write (qOf c) h f _ p hp]
  show sumV m c _ = sumV m (mkDev (p 0) (yOf c)) _
  rw [(mem_slotSet _ _).mp hp, mkDev_q_y]

theorem slotR_fin (s : Fin 4) (h) (y : Fin 2) : accM.view.readAt (Elt F) (slotR (slotO s) h).toLoadRect (fin m y) = finSlot m y s := slotR_readAt s h _

/-- A column of 512 ids is read from the ids' column at the quarter's first token. -/
theorem idv_read (c : Dev nD) (h) : idvM.view.readAt (Elt F) (Rect.unit (s := S2048x1) (k0_off4 c) S512x1.size h).toLoadRect (V m c main_v1) = idcol m c := by
  funext x
  show V m c main_v1 ((Rect.unit (s := S2048x1) (k0_off4 c) S512x1.size h).emb x) = V m c main_v1 (ix2 (tok c (x 0)) (x 1))
  congr 1
  have e0 : k0_off4 c 0 = 1024 * (c.val / 4) + 512 * (c.val % 2) := by rw [k0_off4_eq c]; rfl
  have e1 : k0_off4 c 1 = 0 := by rw [k0_off4_eq c]; rfl
  funext a
  match a with
  | ⟨0, _⟩ =>
    apply Fin.ext
    show k0_off4 c 0 + 1 * (x 0).val = 512 * (2 * (c.val / 4) + c.val % 2) + (x 0).val
    omega
  | ⟨1, _⟩ =>
    apply Fin.ext
    show k0_off4 c 1 + 1 * (x 1).val = (x 1).val
    omega

/-- Rows `512 s …` of the result. -/
abbrev outO (s : Fin 4) : Fin 2 → ℕ := ![512 * s.val, 0]
theorem outO_inb (s : Fin 4) : ∀ a, outO s a + S512x1024.size a ≤ S2048x1024.size a := by revert s; decide
abbrev outR (s : Fin 4) : Rect S2048x1024 := Rect.unit (s := S2048x1024) (outO s) S512x1024.size (outO_inb s)

/-- A store of 512 rows changes those rows. -/
theorem out_write_in (s : Fin 4) (f : (outM.view.ty).Contents (Elt F)) (w : S512x1024.Idx → Elt F .f32) (p : S2048x1024.Idx) (hp : (p 0).val / 512 = s.val) :
    (outM.access (outR s)).write (Elt F) f w Finset.univ p = w (ix2 (⟨(p 0).val % 512, Nat.mod_lt _ (by decide)⟩ : Fin 512) (p 1)) := by
  have e : (outM.access (outR s)).emb (ix2 (⟨(p 0).val % 512, Nat.mod_lt _ (by decide)⟩ : Fin 512) (p 1)) = p := by
    funext a
    match a with
    | ⟨0, _⟩ => exact Fin.ext (by show 512 * s.val + 1 * ((p 0).val % 512) = (p 0).val; omega)
    | ⟨1, _⟩ => exact Fin.ext (by show 0 + 1 * (p 1).val = (p 1).val; omega)
  conv_lhs => rw [← e]
  rw [View.write_emb_of_mem _ _ (Finset.mem_univ _)]
  rfl
/-- And no other. -/
theorem out_write_out (s : Fin 4) (f : (outM.view.ty).Contents (Elt F)) (w : S512x1024.Idx → Elt F .f32) (p : S2048x1024.Idx) (hp : (p 0).val / 512 ≠ s.val) :
    (outM.access (outR s)).write (Elt F) f w Finset.univ p = f p := by
  apply View.write_of_not_mem
  intro hm
  obtain ⟨x, -, rfl⟩ := Finset.mem_map.mp hm
  apply hp
  show (512 * s.val + 1 * (x 0).val) / 512 = s.val
  have : (x 0).val < 512 := (x 0).isLt
  omega

/-- The four stores leave the result. -/
theorem out_stores (y : Fin 2) (f : (outM.view.ty).Contents (Elt F)) :
    (outM.access (outR 3)).write (Elt F) ((outM.access (outR 2)).write (Elt F) ((outM.access (outR 1)).write (Elt F) ((outM.access (outR 0)).write (Elt F) f
      (k0_pay3 (finSlot m y 0)) Finset.univ) (k0_pay3 (finSlot m y 1)) Finset.univ) (k0_pay3 (finSlot m y 2)) Finset.univ) (k0_pay3 (finSlot m y 3)) Finset.univ = outV m y := by
  funext p
  have hlt := idx2_lt0 p
  have hs : (p 0).val / 512 = 0 ∨ (p 0).val / 512 = 1 ∨ (p 0).val / 512 = 2 ∨ (p 0).val / 512 = 3 := by omega
  unfold outV
  rcases hs with hs | hs | hs | hs
  · rw [out_write_out 3 _ _ p (by rw [hs]; decide), out_write_out 2 _ _ p (by rw [hs]; decide), out_write_out 1 _ _ p (by rw [hs]; decide), out_write_in 0 _ _ p hs]
    simp only [hs]; rfl
  · rw [out_write_out 3 _ _ p (by rw [hs]; decide), out_write_out 2 _ _ p (by rw [hs]; decide), out_write_in 1 _ _ p hs]
    simp only [hs]; rfl
  · rw [out_write_out 3 _ _ p (by rw [hs]; decide), out_write_in 2 _ _ p hs]
    simp only [hs]; rfl
  · rw [out_write_in 3 _ _ p hs]
    simp only [hs]; rfl

end Cert.Take

end
-- ==== Proof.Take.Protocol.lean ====
/-
# The exchange's protocol

Each device has ten semaphore cells the devices talk through: the entry barrier, four receive cells, the exit handshake, and
four send cells. Every cell has one round. This module gives each cell its duties, what a duty's payer hands over,
the debts a device starts with (in the order it pays them), the levels that order the waits, and one rule for each kind of step
the body takes: a signal, a wait, and a copy to another device.
-/
module

public import proofs.«01_k».proof.Proof.Take.Contents

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The gather's transfer counters: the right half of the right factor. -/
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

variable (m : (ℓ : Loc nD τ sig) → Buf (Elt F) ℓ)

/-! ## Cells -/

/-- The semaphore of each kind of cell: 0 the entry barrier, 1–4 the receive cells (y, x, z, z), 5 the exit handshake, 6–9 the send cells. -/
def ksem : Fin 10 → SemLoc sig
  | 0 => .reg (0 : Fin 2)
  | 1 => .dma (8 : Fin 12)
  | 2 => .dma (9 : Fin 12)
  | 3 => .dma (10 : Fin 12)
  | 4 => .dma (11 : Fin 12)
  | 5 => .reg (1 : Fin 2)
  | 6 => .dma (4 : Fin 12)
  | 7 => .dma (5 : Fin 12)
  | 8 => .dma (6 : Fin 12)
  | 9 => .dma (7 : Fin 12)
/-- The kind of a semaphore, where it is one of the ten. -/
def kindOf (sm : SemLoc sig) : Option (Fin 10) := (List.finRange 10).find? fun k => ksem k = sm
theorem kindOf_ksem (k : Fin 10) : kindOf (ksem k) = some k := by revert k; decide
theorem ksem_inj : Function.Injective ksem := fun a b h => Option.some.inj ((kindOf_ksem a).symm.trans ((congrArg kindOf h).trans (kindOf_ksem b)))
/-- The semaphore the row fetches signal. -/
def gsem : SemLoc sig := .dma (3 : Fin 12)
theorem kindOf_gsem : kindOf gsem = none := by decide
/-- Device `c`'s cell of kind `k`. -/
abbrev kc (k : Fin 10) (c : Dev nD) : GSem nD τ sig := ((c : Thread nD τ), ksem k)

/-- The credit of one slot's copy. -/
abbrev N : ℕ := (yM : Memref sig .tc .vmem S512x1024 .bf16).view.dmaCredit
theorem N_pos : 0 < N := View.dmaCredit_pos _ (by decide)

/-- The axes over which a cell of kind `k` is paid; a send cell is paid by the device itself, under axis 0. -/
def kdut : Fin 10 → Finset (Fin 3)
  | 0 => Finset.univ
  | 1 => {1}
  | 2 => {0}
  | 3 => {2}
  | 4 => {2}
  | 5 => Finset.univ
  | _ => {0}
/-- A payment's amount. -/
def kamt (k : Fin 10) : ℕ := if k = 0 ∨ k = 5 then 1 else N
theorem kamt_pos (k : Fin 10) : 0 < kamt k := by unfold kamt; split; exact Nat.one_pos; exact N_pos

/-! ## Points-tos -/

/-- A whole buffer of device `c` at contents `f`. -/
abbrev pt (c : Dev nD) (b : Ref sig .tc) (f : b.ty.Contents (Elt F)) : sProp 𝕄 := ((c : Thread nD τ).loc b) ↦{fullShare} f
/-- Slot `s` of device `c`'s accumulator, at `f`. -/
abbrev slotP (c : Dev nD) (s : Fin 4) (f : S4x512x1024.Idx → Elt F .bf16) : sProp 𝕄 := ((c : Thread nD τ).loc cc0_scratch1) ↦[slotSet s]{fullShare} f

/-- The accumulator as its four slots. -/
theorem acc_slots (c : Dev nD) (f : S4x512x1024.Idx → Elt F .bf16) :
    (pt c cc0_scratch1 f : sProp 𝕄) = bigSep Finset.univ fun s => slotP c s f :=
  (congrArg (fun I : Finset S4x512x1024.Idx => (((c : Thread nD τ).loc cc0_scratch1) ↦[I]{fullShare} f : sProp 𝕄)) slots_univ).trans
    (pointsTo_biUnion (ℓ := (c : Thread nD τ).loc cc0_scratch1) Finset.univ slotSet slots_disjoint)

/-! ## The schedule -/

/-- What the neighbour over axis `d` hands with its entry signal to device `c`: the places `c` will copy into, that the receive cells
    there are open, and that its exit cell is open. -/
def barPay (d : Fin 3) (c : Dev nD) : sProp 𝕄 :=
  match d with
  | 0 => iprop((∃ f, slotP (nb 0 c) (qOf c) f) ∗ reached ER (kc 2 (nb 0 c)) 0 ∗ reached ER (kc 5 (nb 0 c)) 0)
  | 1 => iprop((∃ f, pt (nb 1 c) cc0_scratch2 f) ∗ reached ER (kc 1 (nb 1 c)) 0 ∗ reached ER (kc 5 (nb 1 c)) 0)
  | 2 => iprop(((∃ f, slotP (nb 2 c) (zLo c) f) ∗ (∃ f, slotP (nb 2 c) (zHi c) f))
      ∗ (reached ER (kc 3 (nb 2 c)) 0 ∗ reached ER (kc 4 (nb 2 c)) 0) ∗ reached ER (kc 5 (nb 2 c)) 0)

/-- What the payer of duty `d` of device `c`'s cell of kind `k` hands over. -/
def pay (k : Fin 10) (d : Fin 3) (c : Dev nD) : sProp 𝕄 :=
  match k with
  | 0 => barPay d c
  | 1 => pt c cc0_scratch2 (partY m (nb 1 c))
  | 2 => slotP c (qOf (nb 0 c)) (fin m (yOf c))
  | 3 => slotP c (zLo (nb 2 c)) (fin m (yOf c))
  | 4 => slotP c (zHi (nb 2 c)) (fin m (yOf c))
  | 5 => iprop(emp)
  | 6 => slotP c (qOf c) (partAcc m c)
  | 7 => slotP c (qOf c) (fin m (yOf c))
  | 8 => slotP c (zLo c) (fin m (yOf c))
  | 9 => slotP c (zHi c) (fin m (yOf c))

instance barPay_storable (d : Fin 3) (c : Dev nD) : BI.Storable (upEmb : UEmb _ 𝕄) (barPay (F := F) d c) := by
  unfold barPay; split <;> infer_instance
instance pay_storable (k : Fin 10) (d : Fin 3) (c : Dev nD) : BI.Storable (upEmb : UEmb _ 𝕄) (pay m k d c) := by
  unfold pay; split <;> infer_instance

/-- One round on each of the ten cells of each device. -/
def Rd : Rounds.Schedule (GSem nD τ sig) (Fin 3) 𝕄 where
  duties g r := if r = 0 ∧ g.1.2 = .tc then (match kindOf g.2 with | some k => kdut k | none => ∅) else ∅
  unitless _ := False
  amount g _ _ := match kindOf g.2 with | some k => kamt k | none => 1
  payload g _ d := match kindOf g.2 with | some k => pay m k d g.1.1 | none => iprop(emp)
  amount_pos g _ _ _ := by
    cases h : kindOf g.2 with
    | none => exact Nat.one_pos
    | some k => exact kamt_pos k

instance Rd_payload_storable (g : GSem nD τ sig) (r : ℕ) (d : Fin 3) : BI.Storable (upEmb : UEmb _ 𝕄) ((Rd m).payload g r d) := by
  show BI.Storable upEmb (match kindOf g.2 with | some k => pay m k d g.1.1 | none => iprop(emp))
  split <;> infer_instance

theorem duties_kc (k : Fin 10) (c : Dev nD) : (Rd m).duties (kc k c) 0 = kdut k := by
  dsimp only [Rd]; rw [if_pos ⟨rfl, rfl⟩, kindOf_ksem]
theorem duties_later (g : GSem nD τ sig) : ∀ r, 1 ≤ r → (Rd m).duties g r = ∅ := fun r hr => by
  dsimp only [Rd]; rw [if_neg (fun h => by omega)]
theorem amount_kc (k : Fin 10) (c : Dev nD) (d : Fin 3) : (Rd m).amount (kc k c) 0 d = kamt k := by
  dsimp only [Rd]; rw [kindOf_ksem]
theorem payload_kc (k : Fin 10) (c : Dev nD) (d : Fin 3) : (Rd m).payload (kc k c) 0 d = pay m k d c := by
  dsimp only [Rd]; rw [kindOf_ksem]
/-- What a cell's one round takes in. -/
def kexp (k : Fin 10) : ℕ := (kdut k).card * kamt k
theorem expect_kc (k : Fin 10) (c : Dev nD) : (Rd m).expect (kc k c) 0 = kexp k := by
  unfold Schedule.expect Schedule.amountOf
  rw [duties_kc, Finset.sum_congr rfl fun d _ => amount_kc m k c d, Finset.sum_const, smul_eq_mul, kexp]
theorem rest_kc (k : Fin 10) (c : Dev nD) :
    bigSep ((Rd m).duties (kc k c) 0 \ ∅) (fun d => (Rd m).payload (kc k c) 0 d) = bigSep (kdut k) fun d => pay m k d c := by
  rw [Finset.sdiff_empty, duties_kc]
  exact bigSep_congr fun d _ => payload_kc m k c d

/-! ## Debts and levels -/

/-- The debts of device `c`: to the neighbour over each listed axis, on its cell of the listed kind, one payment each. -/
def debt : List (Fin 3 × Fin 10) → Dev nD → CellTallies nD τ sig Unit
  | [], _ => 0
  | p :: l, c => debt l c + tallyAt (kc p.2 (nb p.1 c)) () (kamt p.2)

/-- The payments in the order the body makes them. -/
abbrev exitL : List (Fin 3 × Fin 10) := [(0, 5), (1, 5), (2, 5)]
abbrev sendL : List (Fin 3 × Fin 10) := (1, 1) :: (0, 2) :: (2, 3) :: (2, 4) :: exitL
abbrev allL : List (Fin 3 × Fin 10) := (0, 0) :: (1, 0) :: (2, 0) :: sendL

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def klv : Fin 10 → ℕ
  | 0 => 1
  | 1 => 2
  | 2 => 3
  | 3 => 4
  | 4 => 4
  | 5 => 5
  | _ => 0
def slv (sm : SemLoc sig) : ℕ := match kindOf sm with | some k => klv k | none => 0
def lv (g : GSem nD τ sig) (_ : Unit) : ℕ := slv g.2
theorem slv_ksem (k : Fin 10) : slv (ksem k) = klv k := by unfold slv; rw [kindOf_ksem]

theorem debt_pos {l : List (Fin 3 × Fin 10)} {c : Dev nD} {g : GSem nD τ sig} {u : Unit} (h : 0 < debt l c g u) :
    ∃ p ∈ l, g = kc p.2 (nb p.1 c) := by
  induction l with
  | nil => exact absurd h (Nat.lt_irrefl 0)
  | cons p l ih =>
    unfold debt at h
    rw [Pi.add_apply, Finsupp.add_apply] at h
    rcases Nat.add_pos_iff_pos_or_pos.mp h with h | h
    · obtain ⟨p', hp', e⟩ := ih h
      exact ⟨p', List.mem_cons_of_mem _ hp', e⟩
    · rw [tallyAt_apply] at h
      split at h
      · next hg => exact ⟨p, List.mem_cons_self, hg.1⟩
      · exact absurd h (Nat.lt_irrefl 0)

/-- A device may wait on its semaphore `sm` while each debt it has left is at a higher level. -/
theorem mayWait (c : Dev nD) (sm : SemLoc sig) (l : List (Fin 3 × Fin 10)) (hl : ∀ p ∈ l, slv sm < klv p.2) :
    (levAts L lv : sProp 𝕄) ⊢ MayWait (c : Thread nD τ) sm () (debt l c) :=
  MayOwe.of_cut (L := L) (lev := lv) (slv sm) (fun p hp => by rw [Finset.mem_singleton.mp hp, L_tc]; exact Finset.mem_singleton_self _)
    (fun g u hg => by
      obtain ⟨p, -, rfl⟩ := debt_pos hg
      rw [L_tc]; exact Finset.mem_singleton_self _)
    (fun p hp => by rw [Finset.mem_singleton.mp hp]; exact le_refl _)
    (fun g u hg => by
      obtain ⟨p, hp, rfl⟩ := debt_pos hg
      show slv sm < slv (ksem p.2)
      rw [slv_ksem]; exact hl p hp)

/-- What device `c` owes, at some record of its waits. -/
def owesE (c : Dev nD) (O : CellTallies nD τ sig Unit) : sProp 𝕄 := iprop(∃ W, owes (c : Thread nD τ) O W)

/-! ## The steps -/

abbrev 𝒱₀ : Variants := Variants.none

/-- Every cell's invariant, at the names `κ` the launch allocated. -/
def allInv (κ : GSem nD τ sig → ℕ) : sProp 𝕄 :=
  bigSep (Finset.univ : Finset (Fin 10 × Dev nD)) fun p => cellInv ER (Rd m) (κ (kc p.1 p.2)) (kc p.1 p.2)
instance allInv_persistent (κ : GSem nD τ sig → ℕ) : BI.Persistent (allInv m κ) := by unfold allInv; infer_instance
theorem inv_kc (κ : GSem nD τ sig → ℕ) (k : Fin 10) (c : Dev nD) : allInv m κ ⊢ cellInv ER (Rd m) (κ (kc k c)) (kc k c) :=
  bigSep_elim (Φ := fun p : Fin 10 × Dev nD => (cellInv ER (Rd m) (κ (kc p.1 p.2)) (kc p.1 p.2) : sProp 𝕄)) (Finset.mem_univ (k, c))

variable (κ : GSem nD τ sig → ℕ) (c : Dev nD)

/-- A signal to the neighbour over axis `d` pays the head of the debts. -/
theorem step_signal (d : Fin 3) (k : Fin 10) (l : List (Fin 3 × Fin 10)) (dst : Dev nD) (hdst : dst = nb d c) (sem : Sem sig)
    (hsem : SemLoc.reg sem = ksem k) (hd : d ∈ kdut k) (ha : kamt k = 1) {β : Type} (kk : PUnit → Prog (TpuEff nD τ sig (Elt F) Λ₀ .tc) β) (Q : β → sProp 𝕄) :
    iprop(allInv m κ ∗ owesE c (debt ((d, k) :: l) c) ∗ dutyTok ER (kc k (nb d c)) 0 d ∗ pay m k d (nb d c) ∗ reached ER (kc k (nb d c)) 0)
      ⊢ iprop((owesE c (debt l c) -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (dst, .tc) sem (1#32).toInt) kk) Q) := by
  subst hdst
  unfold owesE
  iintro ⟨#HI, ⟨%W, HO⟩, Ht, Hp, #Hr⟩ Hk
  have e : ((nb d c : Thread nD τ), SemLoc.reg sem) = kc k (nb d c) := by rw [hsem]
  iapply (Rounds.wp_signal 𝒱₀ ER (Rd m) (c : Thread nD τ) none (dst := (nb d c : Thread nD τ)) (sem := sem) (r := 0) (d := d) (κ := κ (kc k (nb d c)))
      (by rw [e, duties_kc]; exact hd) (k' := 1) (by rw [e, amount_kc, ha]) () (debt l c) (by show debt l c + tallyAt (kc k (nb d c)) () (kamt k) = _; rw [ha, e])) $$ [HO Ht Hp]
  · rw [e]
    isplitr; · iapply (inv_kc m κ k (nb d c)); iexact HI
    isplitl [HO]; · iexact HO
    isplitl [Ht]; · iexact Ht
    isplitl [Hp]; · rw [payload_kc]; iexact Hp
    iexact Hr
  iintro HO
  iapply Hk
  iexists W; iexact HO

/-- A wait on the device's own cell brings in the cell's payloads. -/
theorem step_wait (k : Fin 10) (l : List (Fin 3 × Fin 10)) (hl : ∀ p ∈ l, klv k < klv p.2)
    (w : TpuEff nD τ sig (Elt F) Λ₀ .tc PUnit) (n : ℕ) (hn : n = kexp k)
    (hw : ∀ K : PUnit → sProp 𝕄, wpE (defs₀ (F := F)) 𝒱₀ (c : Thread nD τ) none Set.univ w K = waitSpec (c : Thread nD τ) Set.univ (ksem k) n K)
    {β : Type} (kk : PUnit → Prog (TpuEff nD τ sig (Elt F) Λ₀ .tc) β) (Q : β → sProp 𝕄) :
    iprop(allInv m κ ∗ levAts L lv ∗ cred (tallyAt (kc k c) () (kexp k)) ∗ owesE c (debt l c) ∗ atPos ER (kc k c) 0 ∅ 0)
      ⊢ iprop(((owesE c (debt l c) ∗ atPos ER (kc k c) (0 + 1) ∅ 0 ∗ bigSep (kdut k) (fun d => pay m k d c))
          -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  subst hn
  unfold owesE
  iintro ⟨#HI, #Hlev, Hc, ⟨%W, HO⟩, Ha⟩ Hk
  iapply (Rounds.wp_wait_rest_token 𝒱₀ ER (Rd m) (c : Thread nD τ) none (κ := κ (kc k c))
      hw (Set.mem_univ _) () (O := debt l c) (W := W) (R := 0) (m := 0) (T := ∅)
      ((Nat.zero_add _).trans (expect_kc m k c).symm)) $$ [Hc HO Ha]
  · isplitr; · iapply (inv_kc m κ k c); iexact HI
    isplitl [Hc]; · iexact Hc
    isplitl [HO]; · iexact HO
    isplitr; · iapply (mayWait c (ksem k) l (by rw [slv_ksem]; exact hl)); iexact Hlev
    iexact Ha
  iintro ⟨HO, Ha, -, Hp⟩
  ihave Hp := (Entails.of_eq (rest_kc m k c)) $$ Hp
  iapply Hk
  isplitl [HO]; · iexists _; iexact HO
  isplitl [Ha]; · iexact Ha
  iexact Hp

/-- A copy to the neighbour over axis `d` pays the head of the debts and the device's own send cell. -/
theorem step_send (d : Fin 3) (k ks : Fin 10) (l : List (Fin 3 × Fin 10)) (hd : d ∈ kdut k) (hs : (0 : Fin 3) ∈ kdut ks) (ha : kamt k = N) (has : kamt ks = N) (hes : kexp ks = N)
    (dst : Dev nD) (hdst : dst = nb d c) {src dstM : Memref sig .tc .vmem S512x1024 .bf16} (sS rS : DmaSem sig)
    (hsS : SemLoc.dma sS = ksem ks) (hrS : SemLoc.dma rS = ksem k) (hN : dstM.view.dmaCredit = N)
    {hsc : dstM.view.ref.isScScratch = false} {hsrc : src.view.WordExact} {hdstw : dstM.view.WordExact}
    {hty : DmaTarget.Typed Space.vmem (SemLoc.dma rS) (.remote (Dev.tc dst) dstM (SemLoc.dma sS) hsc)}
    (fs : Buf (Elt F) (src.view.loc (c : Thread nD τ))) (fd : Buf (Elt F) (dstM.view.loc (nb d c : Thread nD τ)))
    (hp₁ : (src.view.loc (c : Thread nD τ) ↦[src.view.set]{fullShare} fs : sProp 𝕄) ⊢ pay m ks 0 c)
    (hp₂ : (dstM.view.loc (nb d c : Thread nD τ) ↦[dstM.view.set]{fullShare} (dstM.view.write (Elt F) fd (src.view.read (Elt F) fs) Finset.univ) : sProp 𝕄) ⊢ pay m k d (nb d c))
    {β : Type} (kk : PUnit → Prog (TpuEff nD τ sig (Elt F) Λ₀ .tc) β) (Q : β → sProp 𝕄) :
    iprop(allInv m κ ∗ (src.view.loc (c : Thread nD τ) ↦[src.view.set]{fullShare} fs) ∗ (dstM.view.loc (nb d c : Thread nD τ) ↦[dstM.view.set]{fullShare} fd)
        ∗ owesE c (debt ((d, k) :: l) c) ∗ dutyTok ER (kc ks c) 0 0 ∗ reached ER (kc ks c) 0
        ∗ dutyTok ER (kc k (nb d c)) 0 d ∗ reached ER (kc k (nb d c)) 0)
      ⊢ iprop(((cred (tallyAt (kc ks c) () (kexp ks)) ∗ owesE c (debt l c)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc dst) dstM (SemLoc.dma sS) hsc) (SemLoc.dma rS) hsrc hdstw hty) kk) Q) := by
  subst hdst
  unfold owesE
  iintro ⟨#HI, Hsrc, Hdst, ⟨%W, HO⟩, Hts, #Hrs, Htr, #Hrr⟩ Hk
  have e : ((nb d c : Thread nD τ), SemLoc.dma rS) = kc k (nb d c) := by rw [hrS]
  have es : ((c : Thread nD τ), SemLoc.dma sS) = kc ks c := by rw [hsS]
  iapply (Rounds.wp_send_pointsTo 𝒱₀ ER (Rd m) (c : Thread nD τ) none (c' := (nb d c : Thread nD τ)) (src := src) (dst := dstM)
      (sS := SemLoc.dma sS) (sem := SemLoc.dma rS) (q := fullShare) (fs := fs) (κ₁ := κ (kc ks c)) (κ₂ := κ (kc k (nb d c)))
      (r₁ := 0) (r₂ := 0) (d₁ := 0) (d₂ := d) (fd := fd)
      (by rw [es, duties_kc]; exact hs) (by rw [e, duties_kc]; exact hd)
      () () N hN (by rw [es, amount_kc, has]) (by rw [e, amount_kc, ha]) (debt l c) (by show debt l c + tallyAt (kc k (nb d c)) () (kamt k) = _; rw [ha, e]) (W := W)
      (by rw [es, payload_kc]; exact hp₁) (by rw [e, payload_kc]; exact hp₂)) $$ [Hsrc Hdst HO Hts Htr]
  · rw [e, es]
    isplitr; · iapply (inv_kc m κ ks c); iexact HI
    isplitr; · iapply (inv_kc m κ k (nb d c)); iexact HI
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hc, HO⟩
  iapply Hk
  isplitl [Hc]; · rw [es, hes]; iexact Hc
  iexists W; iexact HO

/-- A cell whose round is over gives its counter back at zero. -/
theorem step_close (k : Fin 10) : iprop(allInv m κ ∗ atPos ER (kc k c) (0 + 1) ∅ 0) ⊢ (|={Set.univ}=> semVal (kc k c) 0 : sProp 𝕄) :=
  (sep_mono_left (inv_kc m κ k c)).trans (Rounds.cell_close ER (Rd m) (Set.mem_univ _) id (duties_later m _))

end Cert.Take

end
-- ==== Proof.Take.Gather.lean ====
/-
# The row fetches

512 local copies on one semaphore bring the rows of the device's quarter from its half of the table into the gather buffer; then
512 waits drain the semaphore. The copies are one batch: copy `t` fills row `t` of the buffer, and after the last wait every
row is there. Each copy reads the table under its own share, as two tokens may name the same row.
-/
module

public import proofs.«01_k».proof.Proof.Take.Protocol
public import Idealize.ShloMosaic.Lib.Batch
public import Idealize.ShloMosaic.Lib.ShareLeaves
public import Idealize.ShloMosaic.Lib.Ring

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Rows -/

/-- Row `t` of the gather buffer. -/
def gRow (t : Fin 512) : Finset S512x1024.Idx := Finset.univ.filter fun p : S512x1024.Idx => (p 0).val = t.val
theorem mem_gRow (t : Fin 512) (p : S512x1024.Idx) : p ∈ gRow t ↔ (p 0).val = t.val := by
  unfold gRow; simp only [Finset.mem_filter, Finset.mem_univ, true_and]
theorem gRow_univ : (Finset.univ : Finset S512x1024.Idx) = Finset.univ.biUnion gRow := by
  ext p
  simp only [Finset.mem_univ, Finset.mem_biUnion, true_and, true_iff]
  exact ⟨p 0, (mem_gRow _ _).mpr rfl⟩
theorem gRow_disjoint : ∀ s ∈ (Finset.univ : Finset (Fin 512)), ∀ s' ∈ (Finset.univ : Finset (Fin 512)), s ≠ s' → Disjoint (gRow s) (gRow s') := by
  intro s _ s' _ hne
  rw [Finset.disjoint_left]
  intro p hp hp'
  exact hne (Fin.ext (((mem_gRow _ _).mp hp).symm.trans ((mem_gRow _ _).mp hp')))

/-- The row of the gather buffer at offsets `o`. -/
abbrev gRowM (o : Fin 2 → ℕ) (h : ∀ a, o a + S1x1024.size a ≤ S512x1024.size a) : Memref sig .tc .vmem S1x1024 .f32 :=
  gM.slice (Rect.unit (s := S512x1024) o S1x1024.size h) (fun _ => rfl)
/-- The row of the table at offsets `o`. -/
abbrev eRowM (o : Fin 2 → ℕ) (h : ∀ a, o a + S1x1024.size a ≤ S16384x1024.size a) : Memref sig .tc .hbm S1x1024 .f32 :=
  eM.slice (Rect.unit (s := S16384x1024) o S1x1024.size h) (fun _ => rfl)

theorem gRowM_set (t : Fin 512) (o) (ho : o = ![t.val, 0]) (h) : (gRowM o h).view.set = gRow t := by
  subst ho
  refine (View.set_slice_whole _ _).trans ?_
  ext p
  rw [mem_gRow, Rect.mem_set_unit]
  constructor
  · intro hp
    have h0 := hp 0
    have h1 : t.val ≤ (p 0).val := h0.1
    have h2 : (p 0).val < t.val + 1 := h0.2
    omega
  · intro hp a
    match a with
    | ⟨0, _⟩ => show t.val ≤ (p 0).val ∧ (p 0).val < t.val + 1; omega
    | ⟨1, _⟩ => exact ⟨Nat.zero_le _, by show (p 1).val < 0 + 1024; have : (p 1).val < 1024 := (p 1).isLt; omega⟩

/-- The id of token `t` of the quarter. -/
def wOf (t : Fin 512) : BitVec 32 := V m c main_arg0 (ix1 (tok c t))
/-- The table row fetched for token `t`. -/
abbrev srcM (t : Fin 512) : Memref sig .tc .hbm S1x1024 .f32 := eRowM (k0_off3 c (wOf m c t)) (k0_off3_inb c (wOf m c t) (k0_chk1_all c (wOf m c t)))

/-- A copy of the table row into row `t` leaves the gathered contents there. -/
theorem row_write (t : Fin 512) (o) (ho : o = ![t.val, 0]) (h) (f : (gM.view.ty).Contents (Elt F)) :
    ∀ p ∈ gRow t, (gRowM o h).view.write (Elt F) f ((srcM m c t).view.read (Elt F) (V m c main_arg1)) Finset.univ p = gath m c p := by
  subst ho
  intro p hp
  have ht := (mem_gRow _ _).mp hp
  rw [← gRowM_set t _ rfl h] at hp
  obtain ⟨x, -, rfl⟩ := Finset.mem_map.mp hp
  rw [View.write_emb_of_mem _ _ (Finset.mem_univ x)]
  have e0 : ((gRowM ![t.val, 0] h).view.emb x 0) = t := Fin.ext ht
  have e1 : ((gRowM ![t.val, 0] h).view.emb x 1).val = (x 1).val := by
    show 0 + 1 * (x 1).val = (x 1).val; omega
  show V m c main_arg1 ((srcM m c t).view.emb x) = V m c main_arg1 (ix2 (rowOf c (V m c main_arg0 (ix1 (tok c ((gRowM ![t.val, 0] h).view.emb x 0))))) ((gRowM ![t.val, 0] h).view.emb x 1))
  rw [e0]
  congr 1
  have hx : (x 0).val < 1 := (x 0).isLt
  funext a
  match a with
  | ⟨0, _⟩ => exact Fin.ext (by show k0_off3 c (wOf m c t) 0 + 1 * (x 0).val = k0_off3 c (wOf m c t) 0; omega)
  | ⟨1, _⟩ => exact Fin.ext (by show 0 + 1 * (x 1).val = _; rw [← e1]; show _ = ((gRowM ![t.val, 0] h).view.emb x 1).val; omega)

/-! ## The batch -/

abbrev NG : ℕ := (gRowM ![0, 0] inb_S512x1024_S1x1024_0_0).view.dmaCredit
theorem NG_pos : 0 < NG := View.dmaCredit_pos _ (by decide)

/-- Share `t` of 512 of the table's. -/
def lf (t : Fin 512) : PosShare TreeShare := ShareLeaves.leaf 9 fullShare (t : Fin (2 ^ 9))
/-- The elements of the table row fetched for token `t`, at share `t`. -/
def srcP (t : Fin 512) : sProp 𝕄 := ((c : Thread nD τ).loc main_arg1) ↦[(srcM m c t).view.set]{lf t} V m c main_arg1
/-- The other elements of the table at share `t`. -/
def restP (t : Fin 512) : sProp 𝕄 := ((c : Thread nD τ).loc main_arg1) ↦[Finset.univ \ (srcM m c t).view.set]{lf t} V m c main_arg1
/-- Row `t` of the gather buffer at `f`. -/
def rowP (t : Fin 512) (f : S512x1024.Idx → Elt F .f32) : sProp 𝕄 := ((c : Thread nD τ).loc cc0_scratch0) ↦[gRow t]{fullShare} f
instance srcP_storable (t : Fin 512) : BI.Storable (upEmb : UEmb _ 𝕄) (srcP m c t) := by unfold srcP; infer_instance
instance rowP_storable (t : Fin 512) (f) : BI.Storable (upEmb : UEmb _ 𝕄) (rowP (F := F) c t f) := by unfold rowP; infer_instance
/-- What copy `t` delivers: the row at the gathered contents, and the table's share back. -/
def deliv (t : Fin 512) : sProp 𝕄 := iprop(rowP c t (gath m c) ∗ srcP m c t)
instance deliv_storable (t : Fin 512) : BI.Storable (upEmb : UEmb _ 𝕄) (deliv m c t) := by unfold deliv; infer_instance

/-- The whole table at each token's share: the row it fetches and the rest. -/
theorem table_split : (pt c main_arg1 (V m c main_arg1) : sProp 𝕄) ⊢ iprop(bigSep Finset.univ (srcP m c) ∗ bigSep Finset.univ (restP m c)) := by
  refine (Entails.of_eq (ShareLeaves.pointsTo_leaves (ℓ := (c : Thread nD τ).loc main_arg1) Finset.univ (V m c main_arg1) 9 fullShare)).trans ?_
  refine BI.Entails.trans ?_ (Entails.of_eq (bigSep_sep' _ _ _))
  refine BI.bigSep_mono (fun t _ => ?_)
  unfold srcP restP
  exact (pointsTo_split_subset (Finset.subset_univ _)).1
theorem table_join : iprop(bigSep Finset.univ (srcP m c) ∗ bigSep Finset.univ (restP m c)) ⊢ (pt c main_arg1 (V m c main_arg1) : sProp 𝕄) := by
  refine BI.Entails.trans ?_ (Entails.of_eq (ShareLeaves.pointsTo_leaves (ℓ := (c : Thread nD τ).loc main_arg1) Finset.univ (V m c main_arg1) 9 fullShare).symm)
  refine (Entails.of_eq (bigSep_sep' _ _ _).symm).trans ?_
  refine BI.bigSep_mono (fun t _ => ?_)
  unfold srcP restP
  exact (pointsTo_split_subset (Finset.subset_univ _)).2
/-- The gather buffer as its rows. -/
theorem rows_eq (f : S512x1024.Idx → Elt F .f32) : (pt c cc0_scratch0 f : sProp 𝕄) = bigSep Finset.univ fun t => rowP c t f :=
  (congrArg (fun I : Finset S512x1024.Idx => (((c : Thread nD τ).loc cc0_scratch0) ↦[I]{fullShare} f : sProp 𝕄)) gRow_univ).trans
    (pointsTo_biUnion (ℓ := (c : Thread nD τ).loc cc0_scratch0) Finset.univ gRow gRow_disjoint)

/-! ## The issue loop -/

/-- Before trip `k`: `k` copies issued, the rows and table shares of the others in hand, the ids in the scalar memory. -/
def issueInv (f : S512x1024.Idx → Elt F .f32) (k : ℕ) (_ : Unit) : sProp 𝕄 :=
  iprop(pt c cc0_stg0_0 (V m c main_arg0) ∗ Transfers.Batch EC (c : Thread nD τ) gsem () NG (deliv m c) k 0
    ∗ bigSep (Ring.rangeSet 512 k 512) (fun t => iprop(rowP c t f ∗ srcP m c t)))

theorem trips1 : k0_t1_loop.trips = 512 := by decide
theorem trips2 : k0_t2_loop.trips = 512 := by decide

variable (v2 v5 v8 v10 v11 v12 v14 v15 : BitVec 32) (v16 : Sems sig S_) (v30 c2 : BitVec 32)

abbrev body1 := k0_t1_body (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c v2 v5 v8 v10 v11 v12 v14 v15 v16 v30 c2
abbrev body2 := k0_t2_body (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c v2 v5 v8 v10 v11 v12 v14 v15 v16 v30 c2

theorem issue_step (f : S512x1024.Idx → Elt F .f32) (k : Fin k0_t1_loop.trips) (acc : Unit) :
    issueInv m c f k acc ⊢ wp frame (wpE (defs₀ (F := F)) 𝒱₀ (c : Thread nD τ) none) Set.univ (body1 c v2 v5 v8 v10 v11 v12 v14 v15 v16 v30 c2 k acc) (issueInv m c f (k.val + 1)) := by
  have hk : k.val < 512 := trips1 ▸ k.isLt
  have hD : iprop((((c : Thread nD τ).loc cc0_scratch0) ↦[gRow ⟨k.val, hk⟩]{fullShare}
        ((gRowM (k0_off2 k) (k0_off2_inb k)).view.write (Elt F) f ((srcM m c ⟨k.val, hk⟩).view.read (Elt F) (V m c main_arg1)) Finset.univ))
      ∗ srcP m c ⟨k.val, hk⟩) ⊢ deliv m c ⟨k.val, hk⟩ := by
    unfold deliv rowP
    rw [pointsTo_congr (row_write m c ⟨k.val, hk⟩ _ (k0_off2_eq k) (k0_off2_inb k) f)]
  unfold issueInv
  rw [Ring.bigSep_rangeSet_head (Φ := fun t => iprop(rowP c t f ∗ srcP m c t)) hk hk]
  unfold body1 k0_t1_body
  simp only [smemLoad, smemLoadElt, Prog.lift, Prog.bind_op, Prog.bind_ret, Prog.pure_eq_ret, Prog.bind_assoc]
  iintro ⟨Hids, HB, ⟨Hrow, Hsrc⟩, Hrest⟩
  iapply (wp_load_rect 𝒱₀ (c : Thread nD τ) none Set.univ (m := idsM) (r := Rect.unit (s := S2048) (k0_off1 c k) S1.size (k0_off1_inb c k)) (Finset.subset_univ _)) $$ Hids
  iintro Hids
  generalize hw : View.read (Elt F) _ _ _ = w
  have hwt : w = wOf m c ⟨k.val, hk⟩ := by
    rw [← hw]
    show V m c main_arg0 _ = V m c main_arg0 _
    congr 1
    have h1 : k0_off1 c k 0 = 1024 * (c.val / 4) + 512 * (c.val % 2) + k.val := by rw [k0_off1_eq]; rfl
    have hq : (qOf c).val = 2 * (c.val / 4) + c.val % 2 := rfl
    funext a
    match a with
    | ⟨0, _⟩ => exact Fin.ext (by show k0_off1 c k 0 + 1 * 0 = 512 * (qOf c).val + k.val; rw [h1, hq]; omega)
  subst hwt
  iapply (wp_assume 𝒱₀ (c : Thread nD τ) none Set.univ (k0_chk1_all c (wOf m c ⟨k.val, hk⟩)))
  iapply (Transfers.wp_dmaBatch EC 𝒱₀ (c : Thread nD τ) none (src := srcM m c ⟨k.val, hk⟩) (dst := gRowM (k0_off2 k) (k0_off2_inb k)) (via := .same) (sm := gsem) (D := deliv m c) (q := lf ⟨k.val, hk⟩) (Sd := gRow ⟨k.val, hk⟩) (fs := V m c main_arg1) (fd := f) () NG rfl (Finset.Subset.refl _ |>.trans (gRowM_set ⟨k.val, hk⟩ _ (k0_off2_eq k) _).le) hk (Nat.zero_le _) hD) $$ [Hrow Hsrc HB]
  · isplitl [Hsrc]
    · unfold srcP; iexact Hsrc
    isplitl [Hrow]
    · unfold rowP; iexact Hrow
    iexact HB
  iintro HB
  rw [wp_ret]; imodintro
  isplitl [Hids]; · iexact Hids
  isplitl [HB]; · iexact HB
  iexact Hrest

/-! ## The drain loop -/

/-- Before trip `k`: either the batch with `k` rows' units consumed, or, at the end, the semaphore at zero and every delivery. -/
def drainInv (k : ℕ) (_ : Unit) : sProp 𝕄 :=
  iprop(⌜k ≤ 512⌝ ∗ levAts L lv ∗ owesE c (debt sendL c)
    ∗ (if k < 512 then Transfers.Batch EC (c : Thread nD τ) gsem () NG (deliv m c) 512 (k * NG)
       else iprop(semVal ((c : Thread nD τ), gsem) 0 ∗ bigSep Finset.univ (deliv m c))))

/-- The device may wait on the fetches' semaphore while it owes its sends and its exit signals. -/
theorem mayWait_gather : (levAts L lv : sProp 𝕄) ⊢ MayWait (c : Thread nD τ) gsem () (debt sendL c) :=
  mayWait c gsem sendL (by decide)

theorem drain_step (k : Fin k0_t2_loop.trips) (acc : Unit) :
    drainInv m c k acc ⊢ wp frame (wpE (defs₀ (F := F)) 𝒱₀ (c : Thread nD τ) none) Set.univ (body2 c v2 v5 v8 v10 v11 v12 v14 v15 v16 v30 c2 k acc) (drainInv m c (k.val + 1)) := by
  have hk : k.val < 512 := trips2 ▸ k.isLt
  unfold drainInv owesE
  simp only [if_pos hk]
  unfold body2 k0_t2_body
  simp only [Prog.lift, Prog.bind_op, Prog.bind_ret, Prog.pure_eq_ret]
  rcases Nat.lt_or_ge (k.val + 1) 512 with h1 | h1
  · simp only [if_pos h1]
    have hu : k.val * NG + NG < NG * 512 := by
      have := Nat.mul_lt_mul_of_pos_left h1 NG_pos
      rw [Nat.mul_add, Nat.mul_comm NG k.val, Nat.mul_one] at this; exact this
    iintro ⟨-, #Hlev, ⟨%W, HO⟩, HB⟩
    iapply (Transfers.wp_waitBatchO EC 𝒱₀ (c : Thread nD τ) none () (N := NG) rfl (D := deliv m c) hu) $$ [HB HO]
    · isplitl [HB]; · iexact HB
      isplitl [HO]; · iexact HO
      iapply (mayWait_gather c); iexact Hlev
    iintro ⟨HB, HO⟩
    rw [wp_ret]; imodintro
    isplitr; · ipureintro; omega
    isplitr; · iexact Hlev
    isplitl [HO]; · iexists _; iexact HO
    rw [show (k.val + 1) * NG = k.val * NG + NG by rw [Nat.add_mul, Nat.one_mul]]
    iexact HB
  · simp only [if_neg (Nat.not_lt.mpr h1)]
    have hu : k.val * NG + NG = NG * 512 := by
      rw [show (512 : ℕ) = k.val + 1 by omega, Nat.mul_add, Nat.mul_comm NG k.val, Nat.mul_one]
    iintro ⟨-, #Hlev, ⟨%W, HO⟩, HB⟩
    iapply (Transfers.wp_waitBatchLastO EC 𝒱₀ (c : Thread nD τ) none () (N := NG) rfl NG_pos (D := deliv m c) hu) $$ [HB HO]
    · isplitl [HB]; · iexact HB
      isplitl [HO]; · iexact HO
      iapply (mayWait_gather c); iexact Hlev
    iintro ⟨HD, Hsem, HO⟩
    rw [wp_ret]; imodintro
    isplitr; · ipureintro; omega
    isplitr; · iexact Hlev
    isplitl [HO]; · iexists _; iexact HO
    isplitl [Hsem]
    · iexact Hsem
    · iexact HD

/-! ## Both loops -/

/-- The two loops fill the gather buffer and give everything else back. -/
theorem gather_loops (f : S512x1024.Idx → Elt F .f32) {β : Type} (kk : Unit → Prog (TpuEff nD τ sig (Elt F) Λ₀ .tc) β) (Q : β → sProp 𝕄) :
    iprop(levAts L lv ∗ pt c cc0_stg0_0 (V m c main_arg0) ∗ pt c main_arg1 (V m c main_arg1) ∗ pt c cc0_scratch0 f
        ∗ semVal ((c : Thread nD τ), gsem) 0 ∗ owesE c (debt sendL c))
      ⊢ iprop(((pt c cc0_stg0_0 (V m c main_arg0) ∗ pt c main_arg1 (V m c main_arg1) ∗ pt c cc0_scratch0 (gath m c)
            ∗ semVal ((c : Thread nD τ), gsem) 0 ∗ owesE c (debt sendL c))
          -∗ wp frame (wpE (defs₀ (F := F)) 𝒱₀ (c : Thread nD τ) none) Set.univ (kk ⟨⟩) Q)
        -∗ wp frame (wpE (defs₀ (F := F)) 𝒱₀ (c : Thread nD τ) none) Set.univ
            (Scf.Loop.for k0_t1_loop k0_t1_ok ⟨⟩ (body1 c v2 v5 v8 v10 v11 v12 v14 v15 v16 v30 c2) >>= fun _ =>
              Scf.Loop.for k0_t2_loop k0_t2_ok ⟨⟩ (body2 c v2 v5 v8 v10 v11 v12 v14 v15 v16 v30 c2) >>= kk) Q) := by
  iintro ⟨#Hlev, Hids, HE, Hg, Hsem, HO⟩ Hk
  ihave HE := (table_split m c) $$ HE
  icases HE with ⟨Hsrc, Hrest⟩
  ihave Hg := (Entails.of_eq (rows_eq c f)) $$ Hg
  imod (Transfers.batch_alloc' (Lvl := ℕ) EC (c : Thread nD τ) () NG (deliv m c) (sm := gsem) (E := Set.univ)) $$ Hsem with HB
  iapply (Scf.wp_for_bind _ _ _ _ _ _ k0_t1_ok _ _ (issueInv m c f) (issue_step m c v2 v5 v8 v10 v11 v12 v14 v15 v16 v30 c2 f)) $$ [Hids HB Hg Hsrc]
  · unfold issueInv
    isplitl [Hids]; · iexact Hids
    isplitl [HB]; · iexact HB
    rw [Ring.rangeSet_univ, bigSep_sep']
    isplitl [Hg] <;> iassumption
  iintro %acc HI
  unfold issueInv
  icases HI with ⟨Hids, HB, -⟩
  iapply (Scf.wp_for_bind _ _ _ _ _ _ k0_t2_ok _ _ (drainInv m c) (drain_step m c v2 v5 v8 v10 v11 v12 v14 v15 v16 v30 c2)) $$ [HB HO]
  · unfold drainInv
    isplitr; · ipureintro; omega
    isplitr; · iexact Hlev
    isplitl [HO]; · iexact HO
    rw [if_pos (by decide : 0 < 512), Nat.zero_mul]
    iapply (Entails.of_eq (congrArg (fun j => Transfers.Batch EC (c : Thread nD τ) gsem () NG (deliv m c) j 0) trips1)); iexact HB
  iintro %acc HI
  unfold drainInv
  icases HI with ⟨-, -, HO, HI⟩
  ihave HI := (Entails.of_eq (if_neg (show ¬ (Scf.trips k0_t2_loop.lb k0_t2_loop.ub k0_t2_loop.st < 512) by decide))) $$ HI
  icases HI with ⟨Hsem, HD⟩
  unfold deliv
  ihave HD := (Entails.of_eq (bigSep_sep' _ _ _)) $$ HD
  icases HD with ⟨Hg, Hsrc⟩
  iapply Hk
  isplitl [Hids]; · iexact Hids
  isplitl [Hsrc Hrest]
  · iapply (table_join m c); isplitl [Hsrc] <;> iassumption
  isplitl [Hg]; · iapply (Entails.of_eq (rows_eq c (gath m c)).symm); iexact Hg
  isplitl [Hsem] <;> iassumption

end Cert.Take

end
-- ==== Proof.Take.Body.lean ====
/-
# The body

Part by part: what each part of the body takes and what it leaves.
-/
module

public import proofs.«01_k».proof.Proof.Take.Gather

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- The weakest precondition of a program of device `c`'s TensorCore. -/
abbrev W {β : Type} (p : Prog (TpuEff nD τ sig (Elt F) Λ₀ .tc) β) (Q : β → sProp 𝕄) : sProp 𝕄 :=
  wp frame (wpE (defs₀ (F := F)) 𝒱₀ (c : Thread nD τ) none) Set.univ p Q

/-! ## One slot at a time -/

/-- A slot's vector is read from the slot alone. -/
theorem load_slot (s : Fin 4) (o) (ho : o = slotO s) (h) {hl : accM.view.LoadsAt (slotR o h).toLoadRect} (f : S4x512x1024.Idx → Elt F .bf16)
    {β : Type} (kk : (S1x512x1024.Idx → Elt F .bf16) → Prog (TpuEff nD τ sig (Elt F) Λ₀ .tc) β) (Q : β → sProp 𝕄) :
    (slotP c s f : sProp 𝕄) ⊢ iprop((slotP c s f -∗ W c (kk fun x => f (ix3 s (x 1) (x 2))) Q)
      -∗ W c (.op (.load accM (slotR o h).toLoadRect hl) kk) Q) := by
  subst ho
  rw [← slotR_readAt s h f]
  refine wp_load 𝒱₀ (c : Thread nD τ) none Set.univ (m := accM) (r := (slotR (slotO s) h).toLoadRect) ?_
  have e := slotA_set s h
  rw [View.set_slice] at e
  exact e.le
/-- A store to a slot changes the slot alone. -/
theorem store_slot (s : Fin 4) (o) (ho : o = slotO s) (h) (w : S1x512x1024.Idx → Elt F .bf16) {hx : (accM.access (slotR o h)).Stores Finset.univ}
    {hm : (Finset.univ : Finset (slotR o h).shape.Idx) = Finset.univ ∨ ∀ a, (slotR o h).stride a = 1} (f g : S4x512x1024.Idx → Elt F .bf16)
    (hg : ∀ h', ∀ p ∈ slotSet s, (accM.access (slotR (slotO s) h')).write (Elt F) f w Finset.univ p = g p)
    {β : Type} (kk : PUnit → Prog (TpuEff nD τ sig (Elt F) Λ₀ .tc) β) (Q : β → sProp 𝕄) :
    (slotP c s f : sProp 𝕄) ⊢ iprop((slotP c s g -∗ W c (kk ⟨⟩) Q)
      -∗ W c (.op (.store accM (slotR o h) w Finset.univ hx hm) kk) Q) := by
  subst ho
  have e : (slotP c s g : sProp 𝕄) = slotP c s ((accM.access (slotR (slotO s) h)).write (Elt F) f w Finset.univ) := (pointsTo_congr (hg h)).symm
  rw [e]
  refine wp_store 𝒱₀ (c : Thread nD τ) none Set.univ (m := accM) (r := slotR (slotO s) h) (Mk := Finset.univ) ?_
  exact (slotA_set s h).le
/-- A slot copied to the same slot of the neighbour over axis `d`. -/
theorem send_slot (d : Fin 3) (k ks : Fin 10) (l : List (Fin 3 × Fin 10)) (hd : d ∈ kdut k) (hs : (0 : Fin 3) ∈ kdut ks) (ha : kamt k = N) (has : kamt ks = N) (hes : kexp ks = N)
    (dst : Dev nD) (hdst : dst = nb d c) (s : Fin 4) (o) (ho : o = slotO s) (h h') (sS rS : DmaSem sig) (hsS : SemLoc.dma sS = ksem ks) (hrS : SemLoc.dma rS = ksem k)
    {hsc : (slotM o h').view.ref.isScScratch = false} {hsrc : (slotM o h).view.WordExact} {hdstw : (slotM o h').view.WordExact}
    {hty : DmaTarget.Typed Space.vmem (SemLoc.dma rS) (.remote (Dev.tc dst) (slotM o h') (SemLoc.dma sS) hsc)}
    (f g : S4x512x1024.Idx → Elt F .bf16)
    (hp₁ : (slotP c s f : sProp 𝕄) ⊢ pay m ks 0 c) (hp₂ : (slotP (nb d c) s f : sProp 𝕄) ⊢ pay m k d (nb d c))
    {β : Type} (kk : PUnit → Prog (TpuEff nD τ sig (Elt F) Λ₀ .tc) β) (Q : β → sProp 𝕄) :
    iprop(allInv m κ ∗ slotP c s f ∗ slotP (nb d c) s g ∗ owesE c (debt ((d, k) :: l) c) ∗ dutyTok ER (kc ks c) 0 0 ∗ reached ER (kc ks c) 0
        ∗ dutyTok ER (kc k (nb d c)) 0 d ∗ reached ER (kc k (nb d c)) 0)
      ⊢ iprop(((cred (tallyAt (kc ks c) () (kexp ks)) ∗ owesE c (debt l c)) -∗ W c (kk ⟨⟩) Q)
        -∗ W c (.op (.enqueueDma (slotM o h) (.remote (Dev.tc dst) (slotM o h') (SemLoc.dma sS) hsc) (SemLoc.dma rS) hsrc hdstw hty) kk) Q) := by
  subst ho
  have hset := slotM_set s h
  have hset' := slotM_set s h'
  have key := step_send m κ c d k ks l hd hs ha has hes dst hdst (src := slotM (slotO s) h) (dstM := slotM (slotO s) h') sS rS hsS hrS rfl
    (hsc := hsc) (hsrc := hsrc) (hdstw := hdstw) (hty := hty) f g
    (by rw [hset]; exact hp₁)
    (by
      rw [hset']
      rw [show ((slotM (slotO s) h').view.loc (nb d c : Thread nD τ) ↦[slotSet s]{fullShare}
          (slotM (slotO s) h').view.write (Elt F) g ((slotM (slotO s) h).view.read (Elt F) f) Finset.univ : sProp 𝕄) = slotP (nb d c) s f from
        pointsTo_congr (slotM_write_read s h g f)]
      exact hp₂) kk Q
  rw [hset] at key
  exact key

/-- The own slot of partial rows copied into the y neighbour's exchange buffer. -/
theorem send_y (l : List (Fin 3 × Fin 10)) (dst : Dev nD) (hdst : dst = nb 1 c) (o) (ho : o = slotO (qOf c)) (h) (sS rS : DmaSem sig) (hsS : SemLoc.dma sS = ksem 6) (hrS : SemLoc.dma rS = ksem 1)
    {hsc : yM.view.ref.isScScratch = false} {hsrc : (slotM o h).view.WordExact} {hdstw : yM.view.WordExact}
    {hty : DmaTarget.Typed Space.vmem (SemLoc.dma rS) (.remote (Dev.tc dst) yM (SemLoc.dma sS) hsc)} (f : S512x1024.Idx → Elt F .bf16)
    {β : Type} (kk : PUnit → Prog (TpuEff nD τ sig (Elt F) Λ₀ .tc) β) (Q : β → sProp 𝕄) :
    iprop(allInv m κ ∗ slotP c (qOf c) (partAcc m c) ∗ pt (nb 1 c) cc0_scratch2 f ∗ owesE c (debt ((1, 1) :: l) c) ∗ dutyTok ER (kc 6 c) 0 0 ∗ reached ER (kc 6 c) 0
        ∗ dutyTok ER (kc 1 (nb 1 c)) 0 1 ∗ reached ER (kc 1 (nb 1 c)) 0)
      ⊢ iprop(((cred (tallyAt (kc 6 c) () (kexp 6)) ∗ owesE c (debt l c)) -∗ W c (kk ⟨⟩) Q)
        -∗ W c (.op (.enqueueDma (slotM o h) (.remote (Dev.tc dst) yM (SemLoc.dma sS) hsc) (SemLoc.dma rS) hsrc hdstw hty) kk) Q) := by
  subst ho
  have hset := slotM_set (qOf c) h
  have hset' : yM.view.set = Finset.univ := View.set_whole _
  have key := step_send m κ c 1 1 6 l (by decide) (by decide) rfl rfl rfl dst hdst (src := slotM (slotO (qOf c)) h) (dstM := yM) sS rS hsS hrS rfl
    (hsc := hsc) (hsrc := hsrc) (hdstw := hdstw) (hty := hty) (partAcc m c) f
    (by rw [hset]; exact Entails.of_eq rfl)
    (by
      rw [hset', y_write m (qOf c) h c f]
      exact Entails.of_eq (by show (pt (nb 1 c) cc0_scratch2 (partY m c) : sProp 𝕄) = pt (nb 1 c) cc0_scratch2 (partY m (nb 1 (nb 1 c))); rw [nb_nb])) kk Q
  rw [hset, hset'] at key
  exact key

/-- A cell of one duty brings that duty's payload. -/
theorem pay_one (k : Fin 10) (d : Fin 3) (hk : kdut k = {d}) : bigSep (kdut k) (fun d => pay m k d c) ⊢ pay m k d c := by
  rw [hk]; exact Entails.of_eq bigSep_singleton

/-! ## The parts -/

/-- Where the two slots a device copies to its z neighbour come from: its own and its x neighbour's quarter. -/
theorem z_cases : (qOf c = zLo c ∧ qOf (nb 0 c) = zHi c) ∨ (qOf c = zHi c ∧ qOf (nb 0 c) = zLo c) := by revert c; decide
theorem z_slots (f : S4x512x1024.Idx → Elt F .bf16) : iprop(slotP c (qOf c) f ∗ slotP c (qOf (nb 0 c)) f) ⊢ iprop(slotP c (zLo c) f ∗ slotP (F := F) c (zHi c) f) := by
  rcases z_cases c with ⟨e, e'⟩ | ⟨e, e'⟩
  · rw [e, e']
  · rw [e, e']; exact BI.sep_comm
/-- The accumulator as a device's own slot and the three it gives away. -/
theorem acc_four (f : S4x512x1024.Idx → Elt F .bf16) : (pt c cc0_scratch1 f : sProp 𝕄)
    = iprop(slotP c (qOf c) f ∗ slotP c (qOf (nb 0 c)) f ∗ slotP c (zLo (nb 2 c)) f ∗ slotP c (zHi (nb 2 c)) f) := by
  rw [acc_slots, bigSep_eq_bigSepL_of_eq [qOf c, qOf (nb 0 c), zLo (nb 2 c), zHi (nb 2 c)] (by revert c; decide) (by revert c; decide)]
  rfl

theorem acc_four_z (f : S4x512x1024.Idx → Elt F .bf16) : (pt c cc0_scratch1 f : sProp 𝕄)
    = iprop(slotP c (zLo c) f ∗ slotP c (zHi c) f ∗ slotP c (zLo (nb 2 c)) f ∗ slotP c (zHi (nb 2 c)) f) := by
  rw [acc_slots, bigSep_eq_bigSepL_of_eq [zLo c, zHi c, zLo (nb 2 c), zHi (nb 2 c)] (by revert c; decide) (by revert c; decide)]
  rfl
theorem z_join (f : S4x512x1024.Idx → Elt F .bf16) : iprop(slotP c (zLo c) f ∗ slotP c (zHi c) f ∗ slotP c (zLo (nb 2 c)) f ∗ slotP c (zHi (nb 2 c)) f)
    ⊢ (pt c cc0_scratch1 f : sProp 𝕄) := Entails.of_eq (acc_four_z c f).symm

variable (v2 v5 v8 v10 v11 v12 v13 v14 v15 : BitVec 32) (v16 : Sems sig S_) (v30 c2 v93 : BitVec 32)

theorem part1_spec (Q : _ → sProp 𝕄) :
    iprop(allInv m κ ∗ owesE c (debt allL c) ∗ dutyTok ER (kc 0 (nb 0 c)) 0 0 ∗ pay m 0 0 (nb 0 c) ∗ reached ER (kc 0 (nb 0 c)) 0
        ∗ dutyTok ER (kc 0 (nb 1 c)) 0 1 ∗ pay m 0 1 (nb 1 c) ∗ reached ER (kc 0 (nb 1 c)) 0)
      ⊢ iprop((∀ v2 v5 v8 v10 v11 v13 v14 v15 v30 c2, owesE c (debt ((2, 0) :: sendL) c) -∗ Q ⟨c, v2, v5, v8, v10, v11, vlo c, v13, v14, v15, SemArray.scalar (sig.barrier 0 rfl), v30, c2⟩)
        -∗ W c (k0_part1 (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0) Q) := by
  rw [k0_part1_eq_skeleton]; unfold k0_part1_skel W
  simp only [semSignalWord, semWaitWord, Prog.lift, Prog.bind_op, Prog.bind_ret, Prog.pure_eq_ret, wp_deviceId]
  iintro ⟨#HI, HO, Ht0, Hp0, #Hr0, Ht1, Hp1, #Hr1⟩ Hk
  iapply (step_signal m κ c 0 0 _ _ (Fin.ext (k0_dev1_eq c)) _ rfl (by decide) rfl) $$ [HO Ht0 Hp0]
  · isplitr; · iexact HI
    isplitl [HO]; · iexact HO
    isplitl [Ht0]; · iexact Ht0
    isplitl [Hp0]; · iexact Hp0
    iexact Hr0
  iintro HO
  iapply (step_signal m κ c 1 0 _ _ (Fin.ext (k0_dev2_eq c)) _ rfl (by decide) rfl) $$ [HO Ht1 Hp1]
  · isplitr; · iexact HI
    isplitl [HO]; · iexact HO
    isplitl [Ht1]; · iexact Ht1
    isplitl [Hp1]; · iexact Hp1
    iexact Hr1
  iintro HO
  rw [wp_ret]; imodintro
  rw [show Scalar.muli (Scalar.remsi (Scalar.divsi (Dev.word c) 2#32) 2#32) 16384#32 = vlo c from rfl]
  iapply Hk; iexact HO

abbrev part2 := k0_part2 (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c
abbrev part3 := k0_part3 (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c
abbrev part4 := k0_part4 (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c
abbrev part5 := k0_part5 (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c
abbrev part6 := k0_part6 (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c
abbrev part7 := k0_part7 (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0 c

/-- A whole-buffer load at offset zero reads the contents. -/
theorem g_read (h) (f : S512x1024.Idx → Elt F .f32) : gM.view.readAt (Elt F) (Rect.unit (s := S512x1024) ![0, 0] S512x1024.size h).toLoadRect f = f :=
  Memref.readAt_unit_zero (Elt F) cc0_scratch0 (by decide) _ f
theorem y_read (h) (f : S512x1024.Idx → Elt F .bf16) : yM.view.readAt (Elt F) (Rect.unit (s := S512x1024) ![0, 0] S512x1024.size h).toLoadRect f = f :=
  Memref.readAt_unit_zero (Elt F) cc0_scratch2 (by decide) _ f

theorem part2_spec (Q : _ → sProp 𝕄) :
    iprop(allInv m κ ∗ levAts L lv ∗ owesE c (debt ((2, 0) :: sendL) c) ∗ dutyTok ER (kc 0 (nb 2 c)) 0 2 ∗ pay m 0 2 (nb 2 c) ∗ reached ER (kc 0 (nb 2 c)) 0
        ∗ cred (tallyAt (kc 0 c) () (kexp 0)) ∗ atPos ER (kc 0 c) 0 ∅ 0
        ∗ pt c cc0_stg0_0 (V m c main_arg0) ∗ pt c cc0_stg1_0 (V m c main_v1) ∗ pt c main_arg1 (V m c main_arg1) ∗ (∃ f, pt c cc0_scratch0 f)
        ∗ semVal ((c : Thread nD τ), gsem) 0 ∗ (∃ f, slotP c (qOf c) f))
      ⊢ iprop(((owesE c (debt sendL c) ∗ atPos ER (kc 0 c) (0 + 1) ∅ 0 ∗ bigSep (kdut 0) (fun d => pay m 0 d c)
          ∗ pt c cc0_stg0_0 (V m c main_arg0) ∗ pt c cc0_stg1_0 (V m c main_v1) ∗ pt c main_arg1 (V m c main_arg1) ∗ pt c cc0_scratch0 (gath m c)
          ∗ semVal ((c : Thread nD τ), gsem) 0 ∗ slotP c (qOf c) (partAcc m c)) -∗ Q ⟨⟩)
        -∗ W c (part2 c v2 v5 v8 v10 v11 (vlo c) v14 v15 (SemArray.scalar (sig.barrier 0 rfl)) v30 c2) Q) := by
  unfold part2; rw [k0_part2_eq_skeleton]; unfold k0_part2_skel W
  simp only [semSignalWord, semWaitWord, Prog.lift, Prog.bind_op, Prog.bind_ret, Prog.pure_eq_ret]
  iintro ⟨#HI, #Hlev, HO, Ht, Hp, #Hr, Hc, Ha, Hids, Hidv, HE, ⟨%g, Hg⟩, Hsem, ⟨%f, Hs⟩⟩ Hk
  iapply (step_signal m κ c 2 0 _ _ (Fin.ext (k0_dev3_eq c)) _ rfl (by decide) rfl) $$ [HO Ht Hp]
  · isplitr; · iexact HI
    isplitl [HO]; · iexact HO
    isplitl [Ht]; · iexact Ht
    isplitl [Hp]; · iexact Hp
    iexact Hr
  iintro HO
  iapply (step_wait m κ c 0 sendL (by decide) _ 3 rfl (fun K => rfl)) $$ [Hc HO Ha]
  · isplitr; · iexact HI
    isplitr; · iexact Hlev
    isplitl [Hc]; · iexact Hc
    isplitl [HO]; · iexact HO
    iexact Ha
  iintro ⟨HO, Ha, Hbar⟩
  iapply (gather_loops m c v2 v5 v8 v10 v11 (vlo c) v14 v15 (SemArray.scalar (sig.barrier 0 rfl)) v30 c2 g) $$ [Hids HE Hg Hsem HO]
  · isplitr; · iexact Hlev
    isplitl [Hids]; · iexact Hids
    isplitl [HE]; · iexact HE
    isplitl [Hg]; · iexact Hg
    isplitl [Hsem]; · iexact Hsem
    iexact HO
  iintro ⟨Hids, HE, Hg, Hsem, HO⟩
  iapply (wp_load 𝒱₀ (c : Thread nD τ) none Set.univ (m := idvM) (Finset.subset_univ _)) $$ Hidv; iintro Hidv
  rw [idv_read]
  iapply (wp_load 𝒱₀ (c : Thread nD τ) none Set.univ (m := gM) (Finset.subset_univ _)) $$ Hg; iintro Hg
  rw [g_read]
  iapply (load_slot c (qOf c) _ (k0_off5_eq c) _ f) $$ Hs; iintro Hs
  iapply (store_slot c (qOf c) _ (k0_off5_eq c) _ _ f (partAcc m c) (fun h' => part_store m (qOf c) h' c f)) $$ Hs; iintro Hs
  unfold W; rw [wp_ret]; imodintro
  iapply Hk
  isplitl [HO]; · iexact HO
  isplitl [Ha]; · iexact Ha
  isplitl [Hbar]; · iexact Hbar
  isplitl [Hids]; · iexact Hids
  isplitl [Hidv]; · iexact Hidv
  isplitl [HE]; · iexact HE
  isplitl [Hg]; · iexact Hg
  isplitl [Hsem]; · iexact Hsem
  iexact Hs

theorem part3_spec (Q : _ → sProp 𝕄) :
    iprop(allInv m κ ∗ levAts L lv ∗ owesE c (debt sendL c) ∗ slotP c (qOf c) (partAcc m c) ∗ (∃ f, pt (nb 1 c) cc0_scratch2 f)
        ∗ dutyTok ER (kc 6 c) 0 0 ∗ reached ER (kc 6 c) 0 ∗ dutyTok ER (kc 1 (nb 1 c)) 0 1 ∗ reached ER (kc 1 (nb 1 c)) 0
        ∗ atPos ER (kc 6 c) 0 ∅ 0 ∗ atPos ER (kc 1 c) 0 ∅ 0 ∗ cred (tallyAt (kc 1 c) () (kexp 1)))
      ⊢ iprop((∀ v93, (owesE c (debt ((0, 2) :: (2, 3) :: (2, 4) :: exitL) c) ∗ slotP c (qOf c) (fin m (yOf c)) ∗ pt c cc0_scratch2 (partY m (nb 1 c))
          ∗ atPos ER (kc 6 c) (0 + 1) ∅ 0 ∗ atPos ER (kc 1 c) (0 + 1) ∅ 0) -∗ Q v93)
        -∗ W c (part3 c v2 v8 v10 v13 v14) Q) := by
  unfold part3; rw [k0_part3_eq_skeleton]; unfold k0_part3_skel W
  simp only [Prog.lift, Prog.bind_op, Prog.bind_ret, Prog.pure_eq_ret]
  iintro ⟨#HI, #Hlev, HO, Hs, ⟨%f, Hy⟩, Ht6, #Hr6, Ht1, #Hr1, Ha6, Ha1, Hc1⟩ Hk
  have ho6 : k0_off6 c = slotO (qOf c) := k0_off6_eq c
  iapply (send_y m κ c ((0, 2) :: (2, 3) :: (2, 4) :: exitL) _ (Fin.ext (k0_dev4_eq c)) _ ho6 _ _ _ rfl rfl f) $$ [HO Hs Hy Ht6 Ht1]
  · isplitr; · iexact HI
    isplitl [Hs]; · iexact Hs
    isplitl [Hy]; · iexact Hy
    isplitl [HO]; · iexact HO
    isplitl [Ht6]; · iexact Ht6
    isplitr; · iexact Hr6
    isplitl [Ht1]; · iexact Ht1
    iexact Hr1
  iintro ⟨Hc6, HO⟩
  iapply (step_wait m κ c 6 ((0, 2) :: (2, 3) :: (2, 4) :: exitL) (by decide) _ _ ?_ (fun K => rfl)) $$ [Hc6 HO Ha6]
  · rfl
  · isplitr; · iexact HI
    isplitr; · iexact Hlev
    isplitl [Hc6]; · iexact Hc6
    isplitl [HO]; · iexact HO
    iexact Ha6
  iintro ⟨HO, Ha6, Hs⟩
  iapply (step_wait m κ c 1 ((0, 2) :: (2, 3) :: (2, 4) :: exitL) (by decide) _ _ ?_ (fun K => rfl)) $$ [Hc1 HO Ha1]
  · rfl
  · isplitr; · iexact HI
    isplitr; · iexact Hlev
    isplitl [Hc1]; · iexact Hc1
    isplitl [HO]; · iexact HO
    iexact Ha1
  iintro ⟨HO, Ha1, Hy⟩
  ihave Hs := (pay_one m c 6 _ rfl) $$ Hs
  ihave Hy := (pay_one m c 1 _ rfl) $$ Hy
  ihave Hs := (show pay m 6 0 c ⊢ slotP c (qOf c) (partAcc m c) from Entails.of_eq rfl) $$ Hs
  ihave Hy := (show pay m 1 1 c ⊢ pt c cc0_scratch2 (partY m (nb 1 c)) from Entails.of_eq rfl) $$ Hy
  iapply (load_slot c (qOf c) _ (k0_off5_eq c) _ (partAcc m c)) $$ Hs; iintro Hs
  rw [show (fun x : S1x512x1024.Idx => partAcc m c (ix3 (qOf c) (x 1) (x 2))) = partV m c from (slotR_readAt (qOf c) (slotO_inb _) _).symm.trans (slotR_partAcc m (qOf c) (slotO_inb _) c)]
  iapply (wp_load 𝒱₀ (c : Thread nD τ) none Set.univ (m := yM) (Finset.subset_univ _)) $$ Hy; iintro Hy
  rw [y_read]
  iapply (load_slot c (qOf c) _ (k0_off5_eq c) _ (partAcc m c)) $$ Hs; iintro Hs
  iapply (store_slot c (qOf c) _ (k0_off5_eq c) _ _ (partAcc m c) (fin m (yOf c)) (fun h' => sum_store m c h' (partAcc m c))) $$ Hs; iintro Hs
  unfold W; rw [wp_ret]; imodintro
  iapply Hk
  isplitl [HO]; · iexact HO
  isplitl [Hs]; · iexact Hs
  isplitl [Hy]; · iexact Hy
  isplitl [Ha6]; · iexact Ha6
  iexact Ha1

/-- The x exchange: the own slot goes out, the x neighbour's comes in. -/
theorem part4_spec (Q : _ → sProp 𝕄) :
    iprop(allInv m κ ∗ levAts L lv ∗ owesE c (debt ((0, 2) :: (2, 3) :: (2, 4) :: exitL) c) ∗ slotP c (qOf c) (fin m (yOf c)) ∗ (∃ f, slotP (nb 0 c) (qOf c) f)
        ∗ dutyTok ER (kc 7 c) 0 0 ∗ reached ER (kc 7 c) 0 ∗ dutyTok ER (kc 2 (nb 0 c)) 0 0 ∗ reached ER (kc 2 (nb 0 c)) 0
        ∗ atPos ER (kc 7 c) 0 ∅ 0 ∗ atPos ER (kc 2 c) 0 ∅ 0 ∗ cred (tallyAt (kc 2 c) () (kexp 2)))
      ⊢ iprop(((owesE c (debt ((2, 3) :: (2, 4) :: exitL) c) ∗ slotP c (qOf c) (fin m (yOf c)) ∗ slotP c (qOf (nb 0 c)) (fin m (yOf c))
          ∗ atPos ER (kc 7 c) (0 + 1) ∅ 0 ∗ atPos ER (kc 2 c) (0 + 1) ∅ 0) -∗ Q ⟨⟩)
        -∗ W c (part4 c v5 v8 v13 v93) Q) := by
  unfold part4; rw [k0_part4_eq_skeleton]; unfold k0_part4_skel W
  simp only [Prog.lift, Prog.bind_op, Prog.bind_ret, Prog.pure_eq_ret]
  iintro ⟨#HI, #Hlev, HO, Hs, ⟨%f, Hd⟩, Ht7, #Hr7, Ht2, #Hr2, Ha7, Ha2, Hc2⟩ Hk
  have ho6 : k0_off6 c = slotO (qOf c) := k0_off6_eq c
  iapply (send_slot m κ c 0 2 7 ((2, 3) :: (2, 4) :: exitL) (by decide) (by decide) rfl rfl rfl _ (Fin.ext (k0_dev5_eq c)) (qOf c) _ ho6 _ _ _ _ rfl rfl (fin m (yOf c)) f
      (Entails.of_eq rfl) (Entails.of_eq (by
        show (slotP (nb 0 c) (qOf c) (fin m (yOf c)) : sProp 𝕄) = slotP (nb 0 c) (qOf (nb 0 (nb 0 c))) (fin m (yOf (nb 0 c)))
        rw [nb_nb, yOf_nb0]))) $$ [HO Hs Hd Ht7 Ht2]
  · isplitr; · iexact HI
    isplitl [Hs]; · iexact Hs
    isplitl [Hd]; · iexact Hd
    isplitl [HO]; · iexact HO
    isplitl [Ht7]; · iexact Ht7
    isplitr; · iexact Hr7
    isplitl [Ht2]; · iexact Ht2
    iexact Hr2
  iintro ⟨Hc7, HO⟩
  iapply (step_wait m κ c 7 ((2, 3) :: (2, 4) :: exitL) (by decide) _ _ ?_ (fun K => rfl)) $$ [Hc7 HO Ha7]
  · rfl
  · isplitr; · iexact HI
    isplitr; · iexact Hlev
    isplitl [Hc7]; · iexact Hc7
    isplitl [HO]; · iexact HO
    iexact Ha7
  iintro ⟨HO, Ha7, Hs⟩
  iapply (step_wait m κ c 2 ((2, 3) :: (2, 4) :: exitL) (by decide) _ _ ?_ (fun K => rfl)) $$ [Hc2 HO Ha2]
  · rfl
  · isplitr; · iexact HI
    isplitr; · iexact Hlev
    isplitl [Hc2]; · iexact Hc2
    isplitl [HO]; · iexact HO
    iexact Ha2
  iintro ⟨HO, Ha2, Hd⟩
  ihave Hs := (pay_one m c 7 _ rfl) $$ Hs
  ihave Hd := (pay_one m c 2 _ rfl) $$ Hd
  ihave Hs := (show pay m 7 0 c ⊢ slotP c (qOf c) (fin m (yOf c)) from Entails.of_eq rfl) $$ Hs
  ihave Hd := (show pay m 2 0 c ⊢ slotP c (qOf (nb 0 c)) (fin m (yOf c)) from Entails.of_eq rfl) $$ Hd
  rw [wp_ret]; imodintro
  iapply Hk
  isplitl [HO]; · iexact HO
  isplitl [Hs]; · iexact Hs
  isplitl [Hd]; · iexact Hd
  isplitl [Ha7]; · iexact Ha7
  iexact Ha2

/-- The z exchange, started: the device's two slots go out. -/
theorem part5_spec (Q : _ → sProp 𝕄) :
    iprop(allInv m κ ∗ owesE c (debt ((2, 3) :: (2, 4) :: exitL) c) ∗ slotP c (zLo c) (fin m (yOf c)) ∗ slotP c (zHi c) (fin m (yOf c))
        ∗ (∃ f, slotP (nb 2 c) (zLo c) f) ∗ (∃ f, slotP (nb 2 c) (zHi c) f)
        ∗ dutyTok ER (kc 8 c) 0 0 ∗ reached ER (kc 8 c) 0 ∗ dutyTok ER (kc 3 (nb 2 c)) 0 2 ∗ reached ER (kc 3 (nb 2 c)) 0
        ∗ dutyTok ER (kc 9 c) 0 0 ∗ reached ER (kc 9 c) 0 ∗ dutyTok ER (kc 4 (nb 2 c)) 0 2 ∗ reached ER (kc 4 (nb 2 c)) 0)
      ⊢ iprop(((owesE c (debt exitL c) ∗ cred (tallyAt (kc 8 c) () (kexp 8)) ∗ cred (tallyAt (kc 9 c) () (kexp 9))) -∗ Q ⟨⟩)
        -∗ W c (part5 c v2 v5 v15) Q) := by
  unfold part5; rw [k0_part5_eq_skeleton]; unfold k0_part5_skel W
  simp only [Prog.lift, Prog.bind_op, Prog.bind_ret, Prog.pure_eq_ret]
  iintro ⟨#HI, HO, Hs, Hs', ⟨%f, Hd⟩, ⟨%f', Hd'⟩, Ht8, #Hr8, Ht3, #Hr3, Ht9, #Hr9, Ht4, #Hr4⟩ Hk
  have ho7 : k0_off7 c = slotO (zLo c) := k0_off7_eq c
  have ho8 : k0_off8 c = slotO (zHi c) := k0_off8_eq c
  iapply (send_slot m κ c 2 3 8 ((2, 4) :: exitL) (by decide) (by decide) rfl rfl rfl _ (Fin.ext (k0_dev6_eq c)) (zLo c) _ ho7 _ _ _ _ rfl rfl (fin m (yOf c)) f
      (Entails.of_eq rfl) (Entails.of_eq (by
        show (slotP (nb 2 c) (zLo c) (fin m (yOf c)) : sProp 𝕄) = slotP (nb 2 c) (zLo (nb 2 (nb 2 c))) (fin m (yOf (nb 2 c)))
        rw [nb_nb, yOf_nb2]))) $$ [HO Hs Hd Ht8 Ht3]
  · isplitr; · iexact HI
    isplitl [Hs]; · iexact Hs
    isplitl [Hd]; · iexact Hd
    isplitl [HO]; · iexact HO
    isplitl [Ht8]; · iexact Ht8
    isplitr; · iexact Hr8
    isplitl [Ht3]; · iexact Ht3
    iexact Hr3
  iintro ⟨Hc8, HO⟩
  iapply (send_slot m κ c 2 4 9 exitL (by decide) (by decide) rfl rfl rfl _ (Fin.ext (k0_dev7_eq c)) (zHi c) _ ho8 _ _ _ _ rfl rfl (fin m (yOf c)) f'
      (Entails.of_eq rfl) (Entails.of_eq (by
        show (slotP (nb 2 c) (zHi c) (fin m (yOf c)) : sProp 𝕄) = slotP (nb 2 c) (zHi (nb 2 (nb 2 c))) (fin m (yOf (nb 2 c)))
        rw [nb_nb, yOf_nb2]))) $$ [HO Hs' Hd' Ht9 Ht4]
  · isplitr; · iexact HI
    isplitl [Hs']; · iexact Hs'
    isplitl [Hd']; · iexact Hd'
    isplitl [HO]; · iexact HO
    isplitl [Ht9]; · iexact Ht9
    isplitr; · iexact Hr9
    isplitl [Ht4]; · iexact Ht4
    iexact Hr4
  iintro ⟨Hc9, HO⟩
  unfold W; rw [wp_ret]; imodintro
  iapply Hk
  isplitl [HO]; · iexact HO
  isplitl [Hc8] <;> iassumption

/-- Its first three waits. -/
theorem part6_spec (Q : _ → sProp 𝕄) :
    iprop(allInv m κ ∗ levAts L lv ∗ owesE c (debt exitL c) ∗ cred (tallyAt (kc 8 c) () (kexp 8)) ∗ cred (tallyAt (kc 9 c) () (kexp 9)) ∗ cred (tallyAt (kc 3 c) () (kexp 3))
        ∗ atPos ER (kc 8 c) 0 ∅ 0 ∗ atPos ER (kc 3 c) 0 ∅ 0 ∗ atPos ER (kc 9 c) 0 ∅ 0)
      ⊢ iprop(((owesE c (debt exitL c) ∗ slotP c (zLo c) (fin m (yOf c)) ∗ slotP c (zLo (nb 2 c)) (fin m (yOf c)) ∗ slotP c (zHi c) (fin m (yOf c))
          ∗ atPos ER (kc 8 c) (0 + 1) ∅ 0 ∗ atPos ER (kc 3 c) (0 + 1) ∅ 0 ∗ atPos ER (kc 9 c) (0 + 1) ∅ 0) -∗ Q ⟨⟩)
        -∗ W c (part6 c v2 v5 v15) Q) := by
  unfold part6; rw [k0_part6_eq_skeleton]; unfold k0_part6_skel W
  simp only [Prog.lift, Prog.bind_op, Prog.bind_ret, Prog.pure_eq_ret]
  iintro ⟨#HI, #Hlev, HO, Hc8, Hc9, Hc3, Ha8, Ha3, Ha9⟩ Hk
  iapply (step_wait m κ c 8 exitL (by decide) _ _ ?_ (fun K => rfl)) $$ [Hc8 HO Ha8]
  · rfl
  · isplitr; · iexact HI
    isplitr; · iexact Hlev
    isplitl [Hc8]; · iexact Hc8
    isplitl [HO]; · iexact HO
    iexact Ha8
  iintro ⟨HO, Ha8, Hs⟩
  iapply (step_wait m κ c 3 exitL (by decide) _ _ ?_ (fun K => rfl)) $$ [Hc3 HO Ha3]
  · rfl
  · isplitr; · iexact HI
    isplitr; · iexact Hlev
    isplitl [Hc3]; · iexact Hc3
    isplitl [HO]; · iexact HO
    iexact Ha3
  iintro ⟨HO, Ha3, Hd⟩
  iapply (step_wait m κ c 9 exitL (by decide) _ _ ?_ (fun K => rfl)) $$ [Hc9 HO Ha9]
  · rfl
  · isplitr; · iexact HI
    isplitr; · iexact Hlev
    isplitl [Hc9]; · iexact Hc9
    isplitl [HO]; · iexact HO
    iexact Ha9
  iintro ⟨HO, Ha9, Hs'⟩
  ihave Hs := (pay_one m c 8 _ rfl) $$ Hs
  ihave Hs' := (pay_one m c 9 _ rfl) $$ Hs'
  ihave Hd := (pay_one m c 3 _ rfl) $$ Hd
  ihave Hs := (show pay m 8 0 c ⊢ slotP c (zLo c) (fin m (yOf c)) from Entails.of_eq rfl) $$ Hs
  ihave Hs' := (show pay m 9 0 c ⊢ slotP c (zHi c) (fin m (yOf c)) from Entails.of_eq rfl) $$ Hs'
  ihave Hd := (show pay m 3 2 c ⊢ slotP c (zLo (nb 2 c)) (fin m (yOf c)) from Entails.of_eq rfl) $$ Hd
  rw [wp_ret]; imodintro
  iapply Hk
  isplitl [HO]; · iexact HO
  isplitl [Hs]; · iexact Hs
  isplitl [Hd]; · iexact Hd
  isplitl [Hs']; · iexact Hs'
  isplitl [Ha8]; · iexact Ha8
  isplitl [Ha3]; · iexact Ha3
  iexact Ha9

/-- The four slots read out into the result, and the first exit signal. -/
theorem part7_spec (Q : _ → sProp 𝕄) :
    iprop(allInv m κ ∗ levAts L lv ∗ owesE c (debt exitL c) ∗ cred (tallyAt (kc 4 c) () (kexp 4)) ∗ atPos ER (kc 4 c) 0 ∅ 0
        ∗ slotP c (zLo c) (fin m (yOf c)) ∗ slotP c (zHi c) (fin m (yOf c)) ∗ slotP c (zLo (nb 2 c)) (fin m (yOf c)) ∗ (∃ f, pt c cc0_stg2_0 f)
        ∗ dutyTok ER (kc 5 (nb 0 c)) 0 0 ∗ reached ER (kc 5 (nb 0 c)) 0)
      ⊢ iprop((∀ r, (owesE c (debt ((1, 5) :: (2, 5) :: []) c) ∗ atPos ER (kc 4 c) (0 + 1) ∅ 0 ∗ pt c cc0_scratch1 (fin m (yOf c)) ∗ pt c cc0_stg2_0 (outV m (yOf c))) -∗ Q r)
        -∗ W c (part7 c v2 v5 v8 v13) Q) := by
  unfold part7; rw [k0_part7_eq_skeleton]; unfold k0_part7_skel W
  simp only [semSignalWord, Prog.lift, Prog.bind_op, Prog.bind_ret, Prog.pure_eq_ret]
  iintro ⟨#HI, #Hlev, HO, Hc4, Ha4, Hs, Hs', Hd, ⟨%f, Hout⟩, Ht, #Hr⟩ Hk
  iapply (step_wait m κ c 4 exitL (by decide) _ _ ?_ (fun K => rfl)) $$ [Hc4 HO Ha4]
  · rfl
  · isplitr; · iexact HI
    isplitr; · iexact Hlev
    isplitl [Hc4]; · iexact Hc4
    isplitl [HO]; · iexact HO
    iexact Ha4
  iintro ⟨HO, Ha4, Hd'⟩
  ihave Hd' := (pay_one m c 4 _ rfl) $$ Hd'
  ihave Hd' := (show pay m 4 2 c ⊢ slotP c (zHi (nb 2 c)) (fin m (yOf c)) from Entails.of_eq rfl) $$ Hd'
  ihave Hacc := (z_join c (fin m (yOf c))) $$ [Hs Hs' Hd Hd']
  · isplitl [Hs]; · iexact Hs
    isplitl [Hs']; · iexact Hs'
    isplitl [Hd]; · iexact Hd
    iexact Hd'
  iapply (wp_load 𝒱₀ (c : Thread nD τ) none Set.univ (m := accM) (Finset.subset_univ _)) $$ Hacc; iintro Hacc
  iapply (wp_load 𝒱₀ (c : Thread nD τ) none Set.univ (m := outM) (Finset.subset_univ _)) $$ Hout; iintro Hout
  iapply (wp_store 𝒱₀ (c : Thread nD τ) none Set.univ (m := outM) (r := outR 0) (Mk := Finset.univ) (Finset.subset_univ _)) $$ Hout; iintro Hout
  iapply (wp_load 𝒱₀ (c : Thread nD τ) none Set.univ (m := accM) (Finset.subset_univ _)) $$ Hacc; iintro Hacc
  iapply (wp_load 𝒱₀ (c : Thread nD τ) none Set.univ (m := outM) (Finset.subset_univ _)) $$ Hout; iintro Hout
  iapply (wp_store 𝒱₀ (c : Thread nD τ) none Set.univ (m := outM) (r := outR 1) (Mk := Finset.univ) (Finset.subset_univ _)) $$ Hout; iintro Hout
  iapply (wp_load 𝒱₀ (c : Thread nD τ) none Set.univ (m := accM) (Finset.subset_univ _)) $$ Hacc; iintro Hacc
  iapply (wp_load 𝒱₀ (c : Thread nD τ) none Set.univ (m := outM) (Finset.subset_univ _)) $$ Hout; iintro Hout
  iapply (wp_store 𝒱₀ (c : Thread nD τ) none Set.univ (m := outM) (r := outR 2) (Mk := Finset.univ) (Finset.subset_univ _)) $$ Hout; iintro Hout
  iapply (wp_load 𝒱₀ (c : Thread nD τ) none Set.univ (m := accM) (Finset.subset_univ _)) $$ Hacc; iintro Hacc
  iapply (wp_load 𝒱₀ (c : Thread nD τ) none Set.univ (m := outM) (Finset.subset_univ _)) $$ Hout; iintro Hout
  iapply (wp_store 𝒱₀ (c : Thread nD τ) none Set.univ (m := outM) (r := outR 3) (Mk := Finset.univ) (Finset.subset_univ _)) $$ Hout; iintro Hout
  have e0 := slotR_fin m 0 (slotO_inb 0) (yOf c)
  have e1 := slotR_fin m 1 (slotO_inb 1) (yOf c)
  have e2 := slotR_fin m 2 (slotO_inb 2) (yOf c)
  have e3 := slotR_fin m 3 (slotO_inb 3) (yOf c)
  ihave Hout := (Entails.of_eq (congrArg (fun f => (pt c cc0_stg2_0 f : sProp 𝕄)) (show _ = outV m (yOf c) from by
    rw [← out_stores m (yOf c) f, ← e0, ← e1, ← e2, ← e3]; rfl))) $$ Hout
  iapply (step_signal m κ c 0 5 ((1, 5) :: (2, 5) :: []) _ (Fin.ext (k0_dev8_eq c)) _ rfl (by decide) rfl) $$ [HO Ht]
  · isplitr; · iexact HI
    isplitl [HO]; · iexact HO
    isplitl [Ht]; · iexact Ht
    isplitr; · unfold pay; iempintro
    iexact Hr
  iintro HO
  rw [wp_ret]; imodintro
  iapply Hk
  isplitl [HO]; · iexact HO
  isplitl [Ha4]; · iexact Ha4
  isplitl [Hacc]; · iexact Hacc
  iexact Hout

end Cert.Take

end
-- ==== Proof.Take.Whole.lean ====
/-
# The whole body

The parts in their order, then the last two exit signals and the exit wait; at the end each of the ten cells is closed.
-/
module

public import proofs.«01_k».proof.Proof.Take.Body

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## What the body takes and leaves -/

/-- The fourteen duties of a device's ten cells: the cell's kind and the axis. -/
def tkd : Fin 14 → Fin 10 × Fin 3
  | 0 => (0, 0)
  | 1 => (0, 1)
  | 2 => (0, 2)
  | 3 => (1, 1)
  | 4 => (2, 0)
  | 5 => (3, 2)
  | 6 => (4, 2)
  | 7 => (5, 0)
  | 8 => (5, 1)
  | 9 => (5, 2)
  | 10 => (6, 0)
  | 11 => (7, 0)
  | 12 => (8, 0)
  | 13 => (9, 0)
/-- Who owns the cell that device `c` pays under the duty: the neighbour, or the device itself for a send cell. -/
def tkOwner (t : Fin 14) : Dev nD ≃ Dev nD := if t.val < 10 then nbEquiv (tkd t).2 else Equiv.refl _

/-- The right to the duty `t` that device `c` pays. -/
abbrev dtok (t : Fin 14) (c : Dev nD) : sProp 𝕄 := dutyTok ER (kc (tkd t).1 (tkOwner t c)) 0 (tkd t).2

theorem bigSep_ten (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_fourteen (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

theorem toks_all (c : Dev nD) : (bigSep Finset.univ fun t => (dtok t c : sProp 𝕄))
    = iprop(dutyTok ER (kc 0 (nb 0 c)) 0 0 ∗ dutyTok ER (kc 0 (nb 1 c)) 0 1 ∗ dutyTok ER (kc 0 (nb 2 c)) 0 2
      ∗ dutyTok ER (kc 1 (nb 1 c)) 0 1 ∗ dutyTok ER (kc 2 (nb 0 c)) 0 0 ∗ dutyTok ER (kc 3 (nb 2 c)) 0 2 ∗ dutyTok ER (kc 4 (nb 2 c)) 0 2
      ∗ dutyTok ER (kc 5 (nb 0 c)) 0 0 ∗ dutyTok ER (kc 5 (nb 1 c)) 0 1 ∗ dutyTok ER (kc 5 (nb 2 c)) 0 2
      ∗ dutyTok ER (kc 6 c) 0 0 ∗ dutyTok ER (kc 7 c) 0 0 ∗ dutyTok ER (kc 8 c) 0 0 ∗ dutyTok ER (kc 9 c) 0 0) := by
  rw [bigSep_fourteen]; rfl

/-- The credit of each receiving cell. -/
def creds (c : Dev nD) : sProp 𝕄 :=
  iprop(cred (tallyAt (kc 0 c) () (kexp 0)) ∗ cred (tallyAt (kc 1 c) () (kexp 1)) ∗ cred (tallyAt (kc 2 c) () (kexp 2))
    ∗ cred (tallyAt (kc 3 c) () (kexp 3)) ∗ cred (tallyAt (kc 4 c) () (kexp 4)) ∗ cred (tallyAt (kc 5 c) () (kexp 5)))

/-- The protocol's state with every cell of the device open. -/
def opened : sProp 𝕄 :=
  iprop(allInv m κ ∗ levAts L lv ∗ (bigSep Finset.univ fun d => reached ER (kc 0 (nb d c)) 0) ∗ (bigSep Finset.univ fun k => reached ER (kc k c) 0)
    ∗ (bigSep Finset.univ fun k => atPos ER (kc k c) 0 ∅ 0) ∗ (bigSep Finset.univ fun t => dtok t c) ∗ creds c)

/-- The buffers the body addresses, the result at some contents. -/
def bufsPre : sProp 𝕄 :=
  iprop(pt c cc0_stg0_0 (V m c main_arg0) ∗ pt c cc0_stg1_0 (V m c main_v1) ∗ (∃ f, pt c cc0_stg2_0 f) ∗ pt c main_arg1 (V m c main_arg1)
    ∗ (∃ f, pt c cc0_scratch0 f) ∗ (∃ f, pt c cc0_scratch1 f) ∗ (∃ f, pt c cc0_scratch2 f))
/-- The buffers at the end, the result written. -/
def bufsPost : sProp 𝕄 :=
  iprop(pt c cc0_stg0_0 (V m c main_arg0) ∗ pt c cc0_stg1_0 (V m c main_v1) ∗ pt c cc0_stg2_0 (outV m (yOf c)) ∗ pt c main_arg1 (V m c main_arg1)
    ∗ (∃ f, pt c cc0_scratch0 f) ∗ (∃ f, pt c cc0_scratch1 f) ∗ (∃ f, pt c cc0_scratch2 f))

/-- A closed position on each of the ten cells gives the ten counters back at zero. -/
theorem close_all : iprop(allInv m κ ∗ bigSep Finset.univ fun k => atPos ER (kc k c) (0 + 1) ∅ 0)
    ⊢ (|={Set.univ}=> bigSep Finset.univ fun k => semVal (kc k c) 0 : sProp 𝕄) := by
  rw [bigSep_ten, bigSep_ten]
  iintro ⟨#HI, H0, H1, H2, H3, H4, H5, H6, H7, H8, H9⟩
  imod (step_close m κ c 0) $$ [H0] with H0
  · isplitr; · iexact HI
    iexact H0
  imod (step_close m κ c 1) $$ [H1] with H1
  · isplitr; · iexact HI
    iexact H1
  imod (step_close m κ c 2) $$ [H2] with H2
  · isplitr; · iexact HI
    iexact H2
  imod (step_close m κ c 3) $$ [H3] with H3
  · isplitr; · iexact HI
    iexact H3
  imod (step_close m κ c 4) $$ [H4] with H4
  · isplitr; · iexact HI
    iexact H4
  imod (step_close m κ c 5) $$ [H5] with H5
  · isplitr; · iexact HI
    iexact H5
  imod (step_close m κ c 6) $$ [H6] with H6
  · isplitr; · iexact HI
    iexact H6
  imod (step_close m κ c 7) $$ [H7] with H7
  · isplitr; · iexact HI
    iexact H7
  imod (step_close m κ c 8) $$ [H8] with H8
  · isplitr; · iexact HI
    iexact H8
  imod (step_close m κ c 9) $$ [H9] with H9
  · isplitr; · iexact HI
    iexact H9
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- What a device hands its x neighbour with the entry signal: the slot it will receive the neighbour's quarter in. -/
theorem give0 : iprop((∃ f, slotP c (qOf (nb 0 c)) f) ∗ reached ER (kc 2 c) 0 ∗ reached ER (kc 5 c) 0) ⊢ (pay m 0 0 (nb 0 c) : sProp 𝕄) :=
  Entails.of_eq (by
    show _ = iprop((∃ f, slotP (nb 0 (nb 0 c)) (qOf (nb 0 c)) f) ∗ reached ER (kc 2 (nb 0 (nb 0 c))) 0 ∗ reached ER (kc 5 (nb 0 (nb 0 c))) 0)
    rw [nb_nb])
/-- To its y neighbour: the exchange buffer. -/
theorem give1 : iprop((∃ f, pt c cc0_scratch2 f) ∗ reached ER (kc 1 c) 0 ∗ reached ER (kc 5 c) 0) ⊢ (pay m 0 1 (nb 1 c) : sProp 𝕄) :=
  Entails.of_eq (by
    show _ = iprop((∃ f, pt (nb 1 (nb 1 c)) cc0_scratch2 f) ∗ reached ER (kc 1 (nb 1 (nb 1 c))) 0 ∗ reached ER (kc 5 (nb 1 (nb 1 c))) 0)
    rw [nb_nb])
/-- To its z neighbour: the two slots it will receive in. -/
theorem give2 : iprop(((∃ f, slotP c (zLo (nb 2 c)) f) ∗ (∃ f, slotP c (zHi (nb 2 c)) f)) ∗ (reached ER (kc 3 c) 0 ∗ reached ER (kc 4 c) 0) ∗ reached ER (kc 5 c) 0)
    ⊢ (pay m 0 2 (nb 2 c) : sProp 𝕄) :=
  Entails.of_eq (by
    show _ = iprop(((∃ f, slotP (nb 2 (nb 2 c)) (zLo (nb 2 c)) f) ∗ (∃ f, slotP (nb 2 (nb 2 c)) (zHi (nb 2 c)) f))
      ∗ (reached ER (kc 3 (nb 2 (nb 2 c))) 0 ∗ reached ER (kc 4 (nb 2 (nb 2 c))) 0) ∗ reached ER (kc 5 (nb 2 (nb 2 c))) 0)
    rw [nb_nb])
/-- What the three entry units bring. -/
theorem bar_take : bigSep (kdut 0) (fun d => pay m 0 d c) ⊢ (iprop(barPay 0 c ∗ barPay 1 c ∗ barPay 2 c) : sProp 𝕄) :=
  Entails.of_eq (bigSep_three fun d => pay m 0 d c)

/-- The kernel's body on device `c`, on the buffers the pipeline calls it with. -/
abbrev theBody := cc0_body (F := F) idsM (Memref.isWhole_whole _) idvM (Memref.isWhole_whole _) eM (Memref.isWhole_whole _) outM (Memref.isWhole_whole _) gM (Memref.isWhole_whole _)
  accM (Memref.isWhole_whole _) yM (Memref.isWhole_whole _) cc0_scratch3 cc0_scratch4 cc0_scratch5 cc0_scoped0

set_option maxHeartbeats 1600000 in
/-- The body's run. -/
theorem body_spec (Q : PUnit → sProp 𝕄) :
    iprop(opened m κ c ∗ semVal ((c : Thread nD τ), gsem) 0 ∗ owesE c (debt allL c) ∗ bufsPre m c)
      ⊢ iprop(((bufsPost m c ∗ (bigSep Finset.univ fun k => semVal (kc k c) 0) ∗ semVal ((c : Thread nD τ), gsem) 0 ∗ owesE c 0) -∗ Q ⟨⟩)
        -∗ W c (theBody (F := F)) Q) := by
  unfold theBody; rw [cc0_body_eq_skeleton]; unfold cc0_body_skel W opened creds bufsPre bufsPost
  rw [toks_all, bigSep_three, bigSep_ten, bigSep_ten]
  iintro ⟨⟨#HI, #Hlev, ⟨#Hn0, #Hn1, #Hn2⟩, ⟨-, #Hr1, #Hr2, #Hr3, #Hr4, #Hr5, #Hr6, #Hr7, #Hr8, #Hr9⟩, ⟨Ha0, Ha1, Ha2, Ha3, Ha4, Ha5, Ha6, Ha7, Ha8, Ha9⟩,
      ⟨T00, T01, T02, T1, T2, T3, T4, T50, T51, T52, T6, T7, T8, T9⟩, ⟨C0, C1, C2, C3, C4, C5⟩⟩, Hsem, HO, ⟨Hids, Hidv, Hout, HE, Hg, ⟨%fa, Hacc⟩, Hy⟩⟩ Hk
  ihave Hacc := (Entails.of_eq (acc_four c fa)) $$ Hacc
  icases Hacc with ⟨Hs, Hsx, Hsl, Hsh⟩
  rw [wp_bind]
  iapply (part1_spec m κ c) $$ [HO T00 T01 Hsx Hy]
  · isplitr; · iexact HI
    isplitl [HO]; · iexact HO
    isplitl [T00]; · iexact T00
    isplitl [Hsx]
    · iapply (give0 m c)
      isplitl [Hsx]; · iexists fa; iexact Hsx
      isplitr; · iexact Hr2
      iexact Hr5
    isplitr; · iexact Hn0
    isplitl [T01]; · iexact T01
    isplitl [Hy]
    · iapply (give1 m c)
      isplitl [Hy]; · iexact Hy
      isplitr; · iexact Hr1
      iexact Hr5
    iexact Hn1
  iintro %v2 %v5 %v8 %v10 %v11 %v13 %v14 %v15 %v30 %c2 HO
  dsimp only
  rw [wp_bind]
  iapply (part2_spec m κ c v2 v5 v8 v10 v11 v14 v15 v30 c2) $$ [HO T02 Hsl Hsh C0 Ha0 Hids Hidv HE Hg Hsem Hs]
  · isplitr; · iexact HI
    isplitr; · iexact Hlev
    isplitl [HO]; · iexact HO
    isplitl [T02]; · iexact T02
    isplitl [Hsl Hsh]
    · iapply (give2 m c)
      isplitl [Hsl Hsh]
      · isplitl [Hsl]; · iexists fa; iexact Hsl
        iexists fa; iexact Hsh
      isplitr
      · isplitr; · iexact Hr3
        iexact Hr4
      iexact Hr5
    isplitr; · iexact Hn2
    isplitl [C0]; · iexact C0
    isplitl [Ha0]; · iexact Ha0
    isplitl [Hids]; · iexact Hids
    isplitl [Hidv]; · iexact Hidv
    isplitl [HE]; · iexact HE
    isplitl [Hg]; · iexact Hg
    isplitl [Hsem]; · iexact Hsem
    iexists fa; iexact Hs
  iintro ⟨HO, Ha0, Hbar, Hids, Hidv, HE, Hg, Hsem, Hs⟩
  ihave Hbar := (bar_take m c) $$ Hbar
  unfold barPay
  icases Hbar with ⟨⟨Hdx, #Hq2, #Hq50⟩, ⟨Hdy, #Hq1, #Hq51⟩, ⟨⟨Hdl, Hdh⟩, ⟨#Hq3, #Hq4⟩, #Hq52⟩⟩
  rw [wp_bind]
  iapply (part3_spec m κ c v2 v8 v10 v13 v14) $$ [HO Hs Hdy T6 T1 Ha6 Ha1 C1]
  · isplitr; · iexact HI
    isplitr; · iexact Hlev
    isplitl [HO]; · iexact HO
    isplitl [Hs]; · iexact Hs
    isplitl [Hdy]; · iexact Hdy
    isplitl [T6]; · iexact T6
    isplitr; · iexact Hr6
    isplitl [T1]; · iexact T1
    isplitr; · iexact Hq1
    isplitl [Ha6]; · iexact Ha6
    isplitl [Ha1]; · iexact Ha1
    iexact C1
  iintro %v93 ⟨HO, Hs, Hy, Ha6, Ha1⟩
  rw [wp_bind]
  iapply (part4_spec m κ c v5 v8 v13 v93) $$ [HO Hs Hdx T7 T2 Ha7 Ha2 C2]
  · isplitr; · iexact HI
    isplitr; · iexact Hlev
    isplitl [HO]; · iexact HO
    isplitl [Hs]; · iexact Hs
    isplitl [Hdx]; · iexact Hdx
    isplitl [T7]; · iexact T7
    isplitr; · iexact Hr7
    isplitl [T2]; · iexact T2
    isplitr; · iexact Hq2
    isplitl [Ha7]; · iexact Ha7
    isplitl [Ha2]; · iexact Ha2
    iexact C2
  iintro ⟨HO, Hs, Hsx, Ha7, Ha2⟩
  ihave Hz := (z_slots c (fin m (yOf c))) $$ [Hs Hsx]
  · isplitl [Hs] <;> iassumption
  icases Hz with ⟨Hs, Hs'⟩
  rw [wp_bind]
  iapply (part5_spec m κ c v2 v5 v15) $$ [HO Hs Hs' Hdl Hdh T8 T3 T9 T4]
  · isplitr; · iexact HI
    isplitl [HO]; · iexact HO
    isplitl [Hs]; · iexact Hs
    isplitl [Hs']; · iexact Hs'
    isplitl [Hdl]; · iexact Hdl
    isplitl [Hdh]; · iexact Hdh
    isplitl [T8]; · iexact T8
    isplitr; · iexact Hr8
    isplitl [T3]; · iexact T3
    isplitr; · iexact Hq3
    isplitl [T9]; · iexact T9
    isplitr; · iexact Hr9
    isplitl [T4]; · iexact T4
    iexact Hq4
  iintro ⟨HO, C8, C9⟩
  rw [wp_bind]
  iapply (part6_spec m κ c v2 v5 v15) $$ [HO C8 C9 C3 Ha8 Ha3 Ha9]
  · isplitr; · iexact HI
    isplitr; · iexact Hlev
    isplitl [HO]; · iexact HO
    isplitl [C8]; · iexact C8
    isplitl [C9]; · iexact C9
    isplitl [C3]; · iexact C3
    isplitl [Ha8]; · iexact Ha8
    isplitl [Ha3]; · iexact Ha3
    iexact Ha9
  iintro ⟨HO, Hs, Hd, Hs', Ha8, Ha3, Ha9⟩
  rw [wp_bind]
  iapply (part7_spec m κ c v2 v5 v8 v13) $$ [HO C4 Ha4 Hs Hs' Hd Hout T50]
  · isplitr; · iexact HI
    isplitr; · iexact Hlev
    isplitl [HO]; · iexact HO
    isplitl [C4]; · iexact C4
    isplitl [Ha4]; · iexact Ha4
    isplitl [Hs]; · iexact Hs
    isplitl [Hs']; · iexact Hs'
    isplitl [Hd]; · iexact Hd
    isplitl [Hout]; · iexact Hout
    isplitl [T50]; · iexact T50
    iexact Hq50
  iintro %r ⟨HO, Ha4, Hacc, Hout⟩
  obtain ⟨r1, r2⟩ := r
  simp only [semSignalWord, semWaitWord, Prog.lift, Prog.bind_op, Prog.bind_ret, Prog.pure_eq_ret]
  iapply (step_signal m κ c 1 5 ((2, 5) :: []) _ (Fin.ext (k0_dev9_eq c)) _ rfl (by decide) rfl) $$ [HO T51]
  · isplitr; · iexact HI
    isplitl [HO]; · iexact HO
    isplitl [T51]; · iexact T51
    isplitr; · unfold pay; iempintro
    iexact Hq51
  iintro HO
  iapply (step_signal m κ c 2 5 [] _ (Fin.ext (k0_dev10_eq c)) _ rfl (by decide) rfl) $$ [HO T52]
  · isplitr; · iexact HI
    isplitl [HO]; · iexact HO
    isplitl [T52]; · iexact T52
    isplitr; · unfold pay; iempintro
    iexact Hq52
  iintro HO
  iapply (step_wait m κ c 5 [] (by decide) _ 3 rfl (fun K => rfl)) $$ [C5 HO Ha5]
  · isplitr; · iexact HI
    isplitr; · iexact Hlev
    isplitl [C5]; · iexact C5
    isplitl [HO]; · iexact HO
    iexact Ha5
  iintro ⟨HO, Ha5, -⟩
  rw [wp_ret]
  imod (close_all m κ c) $$ [Ha0 Ha1 Ha2 Ha3 Ha4 Ha5 Ha6 Ha7 Ha8 Ha9] with Hv
  · isplitr; · iexact HI
    rw [bigSep_ten]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    iexact Ha9
  imodintro
  iapply Hk
  isplitl [Hids Hidv Hout HE Hg Hacc Hy]
  · isplitl [Hids]; · iexact Hids
    isplitl [Hidv]; · iexact Hidv
    isplitl [Hout]; · iexact Hout
    isplitl [HE]; · iexact HE
    isplitl [Hg]; · iexists _; iexact Hg
    isplitl [Hacc]; · iexists _; iexact Hacc
    iexists _; iexact Hy
  isplitl [Hv]; · iexact Hv
  isplitl [Hsem]; · iexact Hsem
  iexact HO

end Cert.Take

end
-- ==== Proof.Take.Region.lean ====
/-
# The region: what it stages, what it passes, and the body's obligation
-/
module

public import proofs.«01_k».proof.Proof.Take.Whole
public import proofs.«01_k».proof.Proof.Gen.KernelIdeal.Frame
public import Idealize.ShloMosaic.Lib.Pipeline.RegionTalk

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## The proof data -/

/-- The three scratch buffers, each at some contents. -/
def scratch : sProp 𝕄 := iprop((∃ f, pt c cc0_scratch0 f) ∗ (∃ f, pt c cc0_scratch1 f) ∗ (∃ f, pt c cc0_scratch2 f))
/-- Before the body: the protocol open, the gather's counter, the table shard, the scratch buffers. -/
def phiIn : sProp 𝕄 :=
  iprop((∃ κ, opened m κ c) ∗ semVal ((c : Thread nD τ), gsem) 0 ∗ pt c main_arg1 (V m c main_arg1) ∗ scratch c ∗ ∃ r, prngReg c r)
/-- After it: every counter back at zero. -/
def phiOut : sProp 𝕄 :=
  iprop((bigSep Finset.univ fun k => semVal (kc k c) 0) ∗ semVal ((c : Thread nD τ), gsem) 0 ∗ pt c main_arg1 (V m c main_arg1) ∗ scratch c
    ∗ ∃ r, prngReg c r)

/-- What each window's buffer holds after the body. -/
def afterV (w : Fin cfg0.W) : (cfg0.win w).block.Idx → Elt F (cfg0.win w).elt :=
  match w with
  | 0 => V m c main_arg0
  | 1 => V m c main_v1
  | 2 => outV m (yOf c)
  | ⟨_ + 3, h⟩ => absurd h (Nat.not_lt.2 (Nat.le_add_left _ _))

/-- The region's proof data on device `c`. -/
def dat (c : Dev nD) : Dat τ (Elt F) Unit ℕ UU ℕ cfg0 c where
  A w := V m c (Pipeline.arrRef spec0 w)
  after w _ := afterV m c w
  Φ t := if t.val = 0 then phiIn m c else phiOut m c
  q _ := fullShare
  owed t := if t.val = 0 then debt allL c else 0

abbrev adm : (p : Fin 1) → (pcfgs (F := F) p).Adm := fun p => (cfgs p).toPCfg_adm
/-- The same, indexed by the one pipeline. -/
def pdats (p : Fin 1) (c : Dev nD) : Dat τ (Elt F) Unit ℕ UU ℕ (Pipeline.pin (pcfgs (F := F)) adm p) c := dat m c

theorem iblk0 (t : Fin cfg0.N) : iblk m c 0 t = V m c main_arg0 :=
  funext fun x => congrArg (V m c main_arg0) (funext fun a => Fin.ext (Pipeline.Window.rect_emb_val_of_index_zero win0_0 t a rfl x))
theorem iblk1 (t : Fin cfg0.N) : iblk m c 1 t = V m c main_v1 :=
  funext fun x => congrArg (V m c main_v1) (funext fun a => Fin.ext (Pipeline.Window.rect_emb_val_of_index_zero win0_1 t a rfl x))

theorem before0 (t : Fin cfg0.N) (d) : (dat m c).before 0 t d = V m c main_arg0 := by
  unfold Dat.before; rw [if_pos (fetch0_0 t)]; exact iblk0 m c t
theorem before1 (t : Fin cfg0.N) (d) : (dat m c).before 1 t d = V m c main_v1 := by
  unfold Dat.before; rw [if_pos (fetch0_1 t)]; exact iblk1 m c t

theorem flushed2 (t : Fin cfg0.N) : (dat m c).flushed 2 t = ((cfg0.win 2).blk t).view.read (Elt F) (outV m (yOf c)) :=
  funext fun x => congrArg (outV m (yOf c)) (funext fun a => Fin.ext (Pipeline.Window.rect_emb_val_of_index_zero win0_2 t a rfl x).symm)

theorem cover2 (i : S2048x1024.Idx) : ∃ t : Fin cfg0.N, (cfg0.win 2).flush t = true ∧ i ∈ ((cfg0.win 2).blk t).view.set :=
  ⟨t0_0, flush0_2 _, by
    have h := ((cfg0.win 2).blk t0_0).view.emb_mem_set i
    have e : ((cfg0.win 2).blk t0_0).view.emb i = i :=
      funext fun a => Fin.ext (Pipeline.Window.rect_emb_val_of_index_zero win0_2 t0_0 a rfl i)
    rw [e] at h; exact h⟩

/-- The result array ends at the gathered rows. -/
theorem arrAt2 : (dat m c).arrAt 2 cfg0.N = outV m (yOf c) :=
  (dat m c).arrAt_eq_of_cover 2 (outV m (yOf c)) (fun t _ => flushed2 m c t) cover2

/-! ## The body's obligation -/

theorem owns_whole_eq {b : Ref sig .tc} (X : b.ty.Contents (Elt F)) :
    (owns (c : Thread nD τ) (Memref.whole b) fullShare X : sProp 𝕄) = pt c b X := by
  unfold owns
  simp only [Memref.view_whole, View.read_whole, View.set_whole]
  refine BI.equiv_iff.mp ⟨?_, ?_⟩
  · show iprop(∃ f, ⌜f = X⌝ ∗ pt c b f) ⊢ _
    iintro ⟨%f, %h, H⟩
    subst h; iexact H
  · show _ ⊢ iprop(∃ f, ⌜f = X⌝ ∗ pt c b f)
    iintro H
    iexists X; isplitr; · ipureintro; rfl
    iexact H

theorem owesAt_intro (t : Fin (cfg0.N + 1)) (O : CellTallies nD τ sig Unit) (h0 : (dat m c).owed t = O) : (owesE c O : sProp 𝕄) ⊢ (dat m c).owesAt () t := by
  unfold owesE Dat.owesAt Pipeline.owesWithin Dat.bound
  rw [h0, show (dat m c).recorded t = Set.univ from rfl]
  iintro ⟨%W, HO⟩
  iexists W
  isplitr; · ipureintro; exact fun _ _ => Or.inl trivial
  iexact HO
theorem owesAt_elim (t : Fin (cfg0.N + 1)) (O : CellTallies nD τ sig Unit) (h0 : (dat m c).owed t = O) : (dat m c).owesAt () t ⊢ (owesE c O : sProp 𝕄) := by
  unfold owesE Dat.owesAt Pipeline.owesWithin
  rw [h0]
  iintro ⟨%W, -, HO⟩
  iexists W; iexact HO

theorem phi_cast (t : Fin cfg0.N) : (dat m c).Φ t.castSucc = phiIn m c := by
  obtain rfl := fin_N0 t; rfl
theorem phi_succ (t : Fin cfg0.N) : (dat m c).Φ t.succ = phiOut m c := by
  obtain rfl := fin_N0 t; rfl
theorem owed_cast (t : Fin cfg0.N) : (dat m c).owed t.castSucc = debt allL c := by
  obtain rfl := fin_N0 t; rfl
theorem owed_succ (t : Fin cfg0.N) : (dat m c).owed t.succ = 0 := by
  obtain rfl := fin_N0 t; rfl

theorem body : BodyObligation (dat m c) (defs₀ (F := F)) 𝒱₀ () Set.univ := fun t => by
  rw [phi_cast, phi_succ]
  rw [bigSep_W0, bigSep_W0]
  show iprop(phiIn m c ∗ (dat m c).owesAt () t.castSucc ∗ (∃ d, owns (c : Thread nD τ) (Memref.whole cc0_stg0_0) fullShare ((dat m c).before 0 t d))
      ∗ (∃ d, owns (c : Thread nD τ) (Memref.whole cc0_stg1_0) fullShare ((dat m c).before 1 t d))
      ∗ (∃ d, owns (c : Thread nD τ) (Memref.whole cc0_stg2_0) fullShare ((dat m c).before 2 t d)))
    ⊢ W c (theBody (F := F)) fun _ => iprop(phiOut m c ∗ (dat m c).owesAt () t.succ ∗ owns (c : Thread nD τ) (Memref.whole cc0_stg0_0) fullShare (V m c main_arg0)
      ∗ owns (c : Thread nD τ) (Memref.whole cc0_stg1_0) fullShare (V m c main_v1)
      ∗ owns (c : Thread nD τ) (Memref.whole cc0_stg2_0) fullShare (outV m (yOf c)))
  simp only [before0, before1, owns_whole_eq]
  unfold phiIn
  iintro ⟨⟨⟨%κ, Hop⟩, Hg, HE, Hs, Hp⟩, HO, ⟨%d0, H0⟩, ⟨%d1, H1⟩, ⟨%d, H2⟩⟩
  ihave HO := (owesAt_elim m c _ _ (owed_cast m c t)) $$ HO
  unfold scratch
  icases Hs with ⟨Hs0, Hs1, Hs2⟩
  iapply (body_spec m κ c) $$ [Hop Hg HO H0 H1 H2 HE Hs0 Hs1 Hs2]
  · isplitl [Hop]; · iexact Hop
    isplitl [Hg]; · iexact Hg
    isplitl [HO]; · iexact HO
    unfold bufsPre
    isplitl [H0]; · iexact H0
    isplitl [H1]; · iexact H1
    isplitl [H2]; · iexists _; iexact H2
    isplitl [HE]; · iexact HE
    isplitl [Hs0]; · iexact Hs0
    isplitl [Hs1]; · iexact Hs1
    iexact Hs2
  unfold bufsPost phiOut scratch
  iintro ⟨⟨H0, H1, H2, HE, Hs0, Hs1, Hs2⟩, Hv, Hg, HO⟩
  isplitl [Hv Hg HE Hs0 Hs1 Hs2 Hp]
  · isplitl [Hv]; · iexact Hv
    isplitl [Hg]; · iexact Hg
    isplitl [HE]; · iexact HE
    isplitl [Hs0 Hs1 Hs2]
    · isplitl [Hs0]; · iexact Hs0
      isplitl [Hs1]; · iexact Hs1
      iexact Hs2
    iexact Hp
  isplitl [HO]
  · iapply (owesAt_intro m c _ _ (owed_succ m c t)); iexact HO
  isplitl [H0]; · iexact H0
  isplitl [H1]; · iexact H1
  iexact H2

end Cert.Take

end
-- ==== Proof.Take.Launch.lean ====
/-
# The launch: the invariants allotted, the region entered and left, the run of @main
-/
module

public import proofs.«01_k».proof.Proof.Take.Region

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : GSem nD τ sig → ℕ) (c : Dev nD)

/-! ## The device's own counters -/

theorem bigSep_ten_succ (Φ : Fin 10 → sProp 𝕄) : bigSep Finset.univ Φ = iprop(Φ 0 ∗ bigSep Finset.univ fun k : Fin 9 => Φ k.succ) := by
  rw [bigSep_ten, bigSep_univ_eq_bigSepL [0, 1, 2, 3, 4, 5, 6, 7, 8] (by decide) (by decide) fun k : Fin 9 => Φ k.succ]
  rfl

/-- The kernel's own semaphores: the row fetches' and the nine of the exchange. -/
abbrev osem : Fin 10 → SemLoc sig := Fin.cases gsem fun k => ksem k.succ

theorem ownSems_eq : (Pipeline.ownSems0 osem c : sProp 𝕄)
    = iprop(semVal ((c : Thread nD τ), gsem) 0 ∗ bigSep Finset.univ fun k : Fin 9 => semVal (kc k.succ c) 0) :=
  bigSep_ten_succ (fun k => (semVal ((c : Thread nD τ), osem k) 0 : sProp 𝕄))

/-! ## What a device keeps from the launch -/

/-- The protocol's state before the region: the entry cell funded, the others to be opened. -/
def ghost : sProp 𝕄 :=
  iprop(allInv m κ ∗ (bigSep Finset.univ fun d => reached ER (kc 0 (nb d c)) 0) ∗ reached ER (kc 0 c) 0 ∗ atPos ER (kc 0 c) 0 ∅ 0
    ∗ (bigSep Finset.univ fun k : Fin 9 => openTok ER (kc k.succ c)) ∗ (bigSep Finset.univ fun t => dtok t c) ∗ creds c)
def Tk : sProp 𝕄 := iprop(∃ κ, ghost m κ c)
def Xk : sProp 𝕄 := iprop((∃ κ, opened m κ c) ∗ semVal ((c : Thread nD τ), gsem) 0)
def Yk : sProp 𝕄 := semVal (kc 0 c) 0

theorem open_one (k : Fin 9) : iprop(allInv m κ ∗ (openTok ER (kc k.succ c) ∗ semVal (kc k.succ c) 0))
    ⊢ (|={Set.univ}=> (atPos ER (kc k.succ c) 0 ∅ 0 ∗ reached ER (kc k.succ c) 0) : sProp 𝕄) :=
  (sep_mono_left (inv_kc m κ k.succ c)).trans (Rounds.cell_open ER (Rd m) (g := kc k.succ c) (Set.mem_univ (κ (kc k.succ c))))

theorem open_nine : iprop(allInv m κ ∗ bigSep Finset.univ fun k : Fin 9 => iprop(openTok ER (kc k.succ c) ∗ semVal (kc k.succ c) 0))
    ⊢ (|={Set.univ}=> ((bigSep Finset.univ fun k : Fin 9 => atPos ER (kc k.succ c) 0 ∅ 0) ∗ (bigSep Finset.univ fun k : Fin 9 => reached ER (kc k.succ c) 0)) : sProp 𝕄) :=
  ((bigSep_with_persistent fun k _ => open_one m κ c k).trans (bigSep_fupd _ _)).trans (BI.fupd_mono (Entails.of_eq (bigSep_sep' _ _ _)))

theorem hopen : iprop(Tk m c ∗ Pipeline.ownSems0 osem c ∗ levAts L lv) ⊢ (|={Set.univ}=> Xk m c : sProp 𝕄) := by
  rw [ownSems_eq]
  unfold Tk Xk ghost
  iintro ⟨⟨%κ, #HI, #Hn, #Hr, Ha, Ho, Ht, Hc⟩, ⟨Hg, Hv⟩, #Hlev⟩
  imod (open_nine m κ c) $$ [Ho Hv] with ⟨Ha', #Hr'⟩
  · isplitr; · iexact HI
    rw [bigSep_sep']
    isplitl [Ho] <;> iassumption
  imodintro
  isplitr [Hg]
  · iexists κ
    unfold opened
    rw [bigSep_ten_succ (fun k => reached ER (kc k c) 0), bigSep_ten_succ (fun k => atPos ER (kc k c) 0 ∅ 0)]
    isplitr; · iexact HI
    isplitr; · iexact Hlev
    isplitr; · iexact Hn
    isplitr
    · isplitr; · iexact Hr
      iexact Hr'
    isplitl [Ha Ha']
    · isplitl [Ha]; · iexact Ha
      iexact Ha'
    isplitl [Ht]; · iexact Ht
    iexact Hc
  iexact Hg

/-! ## The contents at the region's entry and exit -/

abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v2) (outV m (yOf c))
theorem V₂_out : V₂ m c (Proc.devRef .tc main_v2) = outV m (yOf c) := Function.update_self ..
theorem V₂_of (b : Ref sig .tc) (h : (Proc.devRef (τ := τ) .tc b) ≠ Proc.devRef .tc main_v2) : V₂ m c (Proc.devRef .tc b) = V₁ m c (Proc.devRef .tc b) :=
  Function.update_of_ne h ..

theorem arrRefs_eq : Pipeline.arrRefs (τ := τ) spec0 = [Proc.devRef .tc main_arg0, Proc.devRef .tc main_v1, Proc.devRef .tc main_v2].toFinset := by decide
theorem stage_low : ∀ (w : Fin 3) (s : Fin (spec0 w).nbuf), slv (.dma ((spec0 w).sem s)) ≤ 0 := by decide
theorem kinds_pos : ∀ p ∈ allL, 0 < klv p.2 := by decide

/-- The buffers that live through the program. -/
def bufs : Finset (DevRef τ sig) := (StableHlo.tcRefs τ sig).filter fun b => ¬ b.isScoped
theorem unscopedBufs_held (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl
theorem bufs_eq (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl
theorem arrs_eq (W : Valuation τ sig (Elt F)) : (StableHlo.held (c.tc : Thread nD τ) (Pipeline.arrRefs (τ := τ) (pcfgs (F := F) 0).spec) W : sProp 𝕄)
    = iprop(pt c main_arg0 (W main_arg0) ∗ pt c main_v1 (W main_v1) ∗ pt c main_v2 (W main_v2)) := by
  unfold StableHlo.held
  rw [bigSep_eq_bigSepL_of_eq [Proc.devRef .tc main_arg0, Proc.devRef .tc main_v1, Proc.devRef .tc main_v2] arrRefs_eq (by decide)]
  rfl
/-- The table shard, which the body addresses itself. -/
abbrev Hs : Finset (DevRef τ sig) := {Proc.devRef .tc main_arg1}
theorem hs_eq (W : Valuation τ sig (Elt F)) : (StableHlo.held (c.tc : Thread nD τ) Hs W : sProp 𝕄) = pt c main_arg1 (W main_arg1) := by
  unfold StableHlo.held
  rw [bigSep_eq_bigSepL_of_eq [Proc.devRef .tc main_arg1] (by decide) (by decide)]
  rfl
theorem unscopedSems_eq : (unscopedSems0 c : sProp 𝕄) = semVal (kc 0 c) 0 := by
  unfold unscopedSems0
  rw [show (Finset.univ.filter fun sm : SemLoc sig => ¬ sm.isScoped .tc) = {ksem 0} from by decide, BI.bigSep_singleton]

theorem hin : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = phiIn m c from rfl, hs_eq]
  rw [show (Pipeline.scopedRest (Pipeline.pin (pcfgs (F := F)) adm 0).spec c : sProp 𝕄) = scratch c from scopedRest0_eq c]
  unfold phiIn Xk
  iintro ⟨Hs, Hp, HE, Ho, Hg⟩
  isplitl [Ho]; · iexact Ho
  isplitl [Hg]; · iexact Hg
  isplitl [HE]; · iexact HE
  isplitl [Hs]; · iexact Hs
  iexact Hp

theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c)
      ∗ Pipeline.ownSems0 osem c ∗ Yk c) := by
  rw [show (pdats m 0 c).Φ (Fin.last (Pipeline.pin (pcfgs (F := F)) adm 0).N) = phiOut m c from rfl, hs_eq, ownSems_eq]
  rw [show (Pipeline.scopedRest (Pipeline.pin (pcfgs (F := F)) adm 0).spec c : sProp 𝕄) = scratch c from scopedRest0_eq c]
  unfold phiOut Yk
  rw [bigSep_ten_succ, V₂_of m c main_arg1 (by decide)]
  iintro ⟨⟨Hb, Hv⟩, Hg, HE, Hs, Hp⟩
  isplitl [Hs]; · iexact Hs
  isplitl [Hp]; · iexact Hp
  isplitl [HE]; · iexact HE
  isplitl [Hg Hv]
  · isplitl [Hg] <;> iassumption
  iexact Hb

theorem cut (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then debt allL c else 0 := rfl
  rw [e] at h
  split at h
  · obtain ⟨p, hp, rfl⟩ := debt_pos h
    refine ⟨by rw [L_tc]; exact Finset.mem_singleton_self _, ?_⟩
    show 0 < slv (ksem p.2)
    rw [slv_ksem]
    exact kinds_pos p hp
  · exact absurd h (Nat.lt_irrefl 0)

theorem arr_in (c : Dev nD) (w : Fin 3) : (pdats m 0 c).arrAt w 0 = V₁ m c (Proc.devRef .tc (Pipeline.arrRef (Pipeline.pin (pcfgs (F := F)) adm 0).spec w)) := rfl
theorem arr_out (c : Dev nD) (w : Fin 3) : (pdats m 0 c).arrAt w (Pipeline.pin (pcfgs (F := F)) adm 0).N
    = V₂ m c (Proc.devRef .tc (Pipeline.arrRef (Pipeline.pin (pcfgs (F := F)) adm 0).spec w)) :=
  match w with
  | 0 => ((dat m c).arrAt_in (0 : Fin 3) rfl _).trans (V₂_of m c main_arg0 (by decide)).symm
  | 1 => ((dat m c).arrAt_in (1 : Fin 3) rfl _).trans (V₂_of m c main_v1 (by decide)).symm
  | 2 => (arrAt2 m c).trans (V₂_out m c).symm
  | ⟨_ + 3, h⟩ => absurd h (Nat.not_lt.2 (Nat.le_add_left _ _))

set_option backward.isDefEq.respectTransparency.types false in
/-- The region. -/
def reg : Pipeline.RegionSeg (pcfgs (F := F)) adm (pdats m) () (defs₀ (F := F)) 𝒱₀ L lv 0 :=
  Pipeline.RegionSeg.ofTalk (pcfgs (F := F)) adm (pdats m) () defs₀ 𝒱₀ L lv 0 osem (by decide : Pipeline.OwnSemFacts spec0 osem)
    Hs Hs (Finset.Subset.refl _) launch0.toP rfl (fun c => (body m c).loose)
    (fun _ => 0) (debt allL) (fun c => (zero_add _).symm) (fun c => rfl) (fun _ => rfl) (fun c w => by unfold Dat.share; split <;> rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _,
      fun c w s => stage_low w s,
      fun c t g i h => cut m c t g i h⟩
    (fun _ => iprop(emp))
    (arr_in m) (arr_out m)

end Cert.Take

end
-- ==== Proof.Take.Run.lean ====
/-
# The run of @main
-/
module

public import proofs.«01_k».proof.Proof.Take.Launch

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : GSem nD τ sig → ℕ) (c : Dev nD)

/-! ## The cells and the tokens -/

theorem bigSep_swap {A B : Type} [Fintype A] [Fintype B] (Φ : A × B → sProp 𝕄) :
    bigSep Finset.univ Φ = bigSep Finset.univ fun b : B => bigSep Finset.univ fun a : A => Φ (a, b) := by
  rw [bigSep_univ_equiv (Equiv.prodComm B A) Φ, bigSep_univ_prod]
  rfl

theorem kc_inj {p q : Fin 10 × Dev nD} (h : kc p.1 p.2 = kc q.1 q.2) : p = q :=
  Prod.ext (ksem_inj (congrArg Prod.snd h)) (congrArg (fun g : GSem nD τ sig => g.1.1) h)

def barEmb : Dev nD ↪ GSem nD τ sig := ⟨kc 0, fun a b h => congrArg Prod.snd (kc_inj (p := (0, a)) (q := (0, b)) h)⟩
def scEmb : Fin 9 × Dev nD ↪ GSem nD τ sig :=
  ⟨fun p => kc p.1.succ p.2, fun a b h =>
    have e := kc_inj (p := (a.1.succ, a.2)) (q := (b.1.succ, b.2)) h
    Prod.ext (Fin.succ_injective _ (Prod.mk.inj e).1) (Prod.mk.inj e).2⟩
theorem tkd_inj : Function.Injective tkd := by decide
def tokEmb : Fin 14 × Dev nD ↪ GSem nD τ sig × ℕ × Fin 3 :=
  ⟨fun p => (kc (tkd p.1).1 p.2, 0, (tkd p.1).2), fun a b h =>
    have e := kc_inj (p := ((tkd a.1).1, a.2)) (q := ((tkd b.1).1, b.2)) (congrArg Prod.fst h)
    Prod.ext (tkd_inj (Prod.ext (Prod.mk.inj e).1 (congrArg (fun t : GSem nD τ sig × ℕ × Fin 3 => t.2.2) h))) (Prod.mk.inj e).2⟩

/-- The entry cells, funded from their counters; the other nine of each device, funded without. -/
def barCells : Finset (GSem nD τ sig) := Finset.univ.map barEmb
def scCells : Finset (GSem nD τ sig) := Finset.univ.map scEmb
def allToks : Finset (GSem nD τ sig × ℕ × Fin 3) := Finset.univ.map tokEmb

theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact Fin.succ_ne_zero p.1 (congrArg Prod.fst (kc_inj (p := (p.1.succ, p.2)) (q := (0, c)) h))

theorem bar_eq (Φ : GSem nD τ sig → sProp 𝕄) : bigSep barCells Φ = bigSep Finset.univ fun c : Dev nD => Φ (kc 0 c) :=
  bigSep_map (s := Finset.univ) barEmb (Φ := Φ)

theorem inv_all : (bigSep (barCells ∪ scCells) fun g => (cellInv ER (Rd m) (κ g) g : sProp 𝕄)) ⊢ allInv m κ :=
  Entails.of_eq (by
    rw [bigSep_union disjoint_cells, bar_eq]
    unfold scCells allInv
    rw [bigSep_map, bigSep_univ_prod, bigSep_univ_prod, bigSep_ten_succ]
    rfl)

theorem open_deal : bigSep scCells (fun g => (openTok ER g : sProp 𝕄))
    = bigSep Finset.univ fun c : Dev nD => bigSep Finset.univ fun k : Fin 9 => openTok ER (kc k.succ c) := by
  unfold scCells
  rw [bigSep_map, bigSep_swap]
  rfl

/-- Each duty's token, dealt to the device that pays it. -/
theorem toks_deal : bigSep allToks (fun x => (dutyTok ER x.1 x.2.1 x.2.2 : sProp 𝕄))
    = bigSep Finset.univ fun c : Dev nD => bigSep Finset.univ fun t => dtok t c := by
  unfold allToks
  rw [bigSep_map, bigSep_univ_prod, ← bigSep_swap (fun p : Fin 14 × Dev nD => (dtok p.1 p.2 : sProp 𝕄)), bigSep_univ_prod]
  exact bigSep_congr fun t _ => bigSep_univ_equiv (tkOwner t) (fun c : Dev nD => (dutyTok ER (kc (tkd t).1 c) 0 (tkd t).2 : sProp 𝕄))

/-! ## The launch credit -/

/-- The credits that the payments of a list leave at device `c`'s cells. -/
def credL : List (Fin 3 × Fin 10) → Dev nD → sProp 𝕄
  | [], _ => iprop(emp)
  | p :: l, c => iprop(credL l c ∗ cred (tallyAt (kc p.2 c) () (kamt p.2)))

theorem launch_debt (l : List (Fin 3 × Fin 10)) : (Pipeline.launchCred (debt l) c : sProp 𝕄) ⊢ credL l c := by
  induction l with
  | nil => exact Entails.of_eq (Pipeline.launchCred_zero c)
  | cons p l ih =>
    refine (Entails.of_eq (Pipeline.launchCred_add (debt l) (fun d => tallyAt (kc p.2 (nb p.1 d)) () (kamt p.2)) c)).trans ?_
    exact (sep_mono_left ih).trans (sep_mono_right (Pipeline.launchCred_tallyAt (ksem p.2) (nb p.1) (nb p.1) (nb_nb p.1) (nb_nb p.1) () (kamt p.2) c))

theorem three_one (g : GSem nD τ sig) : iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    show tallyAt g () (1 + (1 + 1)) = _
    rw [tallyAt_add, tallyAt_add]]
  exact (sep_mono_right (cred_add _ _).2).trans (cred_add _ _).2

theorem creds_intro : (Pipeline.launchCred (debt allL) c : sProp 𝕄) ⊢ creds c := by
  refine (launch_debt c allL).trans ?_
  show iprop((((((((((emp ∗ cred (tallyAt (kc 5 c) () 1)) ∗ cred (tallyAt (kc 5 c) () 1)) ∗ cred (tallyAt (kc 5 c) () 1)) ∗ cred (tallyAt (kc 4 c) () N))
    ∗ cred (tallyAt (kc 3 c) () N)) ∗ cred (tallyAt (kc 2 c) () N)) ∗ cred (tallyAt (kc 1 c) () N)) ∗ cred (tallyAt (kc 0 c) () 1))
    ∗ cred (tallyAt (kc 0 c) () 1)) ∗ cred (tallyAt (kc 0 c) () 1)) ⊢ _
  unfold creds
  rw [show kexp 0 = 3 from rfl, show kexp 5 = 3 from rfl, show kexp 1 = N from Nat.one_mul _, show kexp 2 = N from Nat.one_mul _,
    show kexp 3 = N from Nat.one_mul _, show kexp 4 = N from Nat.one_mul _]
  iintro ⟨⟨⟨⟨⟨⟨⟨⟨⟨⟨-, H5⟩, H5'⟩, H5''⟩, H4⟩, H3⟩, H2⟩, H1⟩, H0⟩, H0'⟩, H0''⟩
  isplitl [H0 H0' H0'']
  · iapply (three_one (kc 0 c))
    isplitl [H0]; · iexact H0
    isplitl [H0'] <;> iassumption
  isplitl [H1]; · iexact H1
  isplitl [H2]; · iexact H2
  isplitl [H3]; · iexact H3
  isplitl [H4]; · iexact H4
  iapply (three_one (kc 5 c))
  isplitl [H5]; · iexact H5
  isplitl [H5'] <;> iassumption

/-! ## The launch -/

def u₀ : UU :=
  (initOf (Pipeline.cells (Pipeline.pin (pcfgs (F := F)) adm) cellOf_inj) (Pipeline.launchToks (Pipeline.pin (pcfgs (F := F)) adm) cellOf_inj),
    (launchOf barCells scCells allToks, 1))

/-- A resource held for the whole machine, kept by device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp
def G : Dev nD → sProp 𝕄 := atZero (BI.own (ER (launchOf barCells scCells allToks)))

/-- What any device may consult: every invariant, and that every entry cell is at its round. -/
def records : sProp 𝕄 := iprop(allInv m κ ∗ bigSep Finset.univ fun c : Dev nD => reached ER (kc 0 c) 0)
instance records_persistent : BI.Persistent (records m κ) := by unfold records; infer_instance

theorem reached_at (c : Dev nD) : (bigSep Finset.univ fun c : Dev nD => (reached ER (kc 0 c) 0 : sProp 𝕄)) ⊢ reached ER (kc 0 c) 0 :=
  bigSep_elim (Φ := fun c : Dev nD => (reached ER (kc 0 c) 0 : sProp 𝕄)) (Finset.mem_univ c)

/-- What one device alone holds of the protocol. -/
def own1 : sProp 𝕄 :=
  iprop(atPos ER (kc 0 c) 0 ∅ 0 ∗ (bigSep Finset.univ fun k : Fin 9 => openTok ER (kc k.succ c)) ∗ (bigSep Finset.univ fun t => dtok t c))
/-- What of its launch holdings is not the protocol's. -/
def base : sProp 𝕄 :=
  iprop(StableHlo.held (c : Thread nD τ) bufs (V₀ m c) ∗ creds c ∗ owes (c : Thread nD τ) (debt allL c) ∅ ∗ ∃ r, prngReg c r)

/-- What rides beside the buffers up to the region. -/
def ride : sProp 𝕄 := iprop(Tk m c ∗ owesE c (debt allL c) ∗ ∃ r, prngReg c r)
abbrev T₀ : sProp 𝕄 := iprop(StableHlo.held (c : Thread nD τ) bufs (V₀ m c) ∗ ride m c)
abbrev Tₙ : sProp 𝕄 := iprop(StableHlo.held (c : Thread nD τ) bufs (V₂ m c) ∗ semVal (kc 0 c) 0)

theorem T₀_intro : iprop(records m κ ∗ (own1 c ∗ base m c)) ⊢ T₀ m c := by
  unfold records own1 base T₀ ride Tk ghost
  iintro ⟨⟨#HI, #HR⟩, ⟨Ha, Ho, Ht⟩, Hh, Hc, HO, Hp⟩
  isplitl [Hh]; · iexact Hh
  isplitr [HO Hp]
  · iexists κ
    rw [bigSep_three]
    isplitr; · iexact HI
    isplitr
    · isplitr; · iapply (reached_at (F := F) (nb 0 c)); iexact HR
      isplitr; · iapply (reached_at (F := F) (nb 1 c)); iexact HR
      iapply (reached_at (F := F) (nb 2 c)); iexact HR
    isplitr; · iapply (reached_at (F := F) c); iexact HR
    isplitl [Ha]; · iexact Ha
    isplitl [Ho]; · iexact Ho
    isplitl [Ht]; · iexact Ht
    iexact Hc
  isplitl [HO]
  · unfold owesE; iexists ∅; iexact HO
  iexact Hp

theorem core_intro : iprop(unscopedBufs c (fun b => m ((c : Thread nD τ).loc b)) ∗ unscopedSems0 c
      ∗ owes (c : Thread nD τ) (debt allL c) ∅ ∗ Pipeline.launchCred (debt allL) c ∗ prngReg c (ρ c) ∗ G c)
    ⊢ (iprop(base m c ∗ (semVal (kc 0 c) 0 ∗ G c)) : sProp 𝕄) := by
  rw [show unscopedBufs c (fun b => m ((c : Thread nD τ).loc b)) = StableHlo.held (c : Thread nD τ) bufs (V₀ m c) from unscopedBufs_held c (V₀ m c),
    unscopedSems_eq]
  unfold base
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem cores_intro : (bigSep Finset.univ fun c : Dev nD => iprop(unscopedBufs c (fun b => m ((c : Thread nD τ).loc b)) ∗ unscopedSems0 c
      ∗ owes (c : Thread nD τ) (debt allL c) ∅ ∗ Pipeline.launchCred (debt allL) c ∗ prngReg c (ρ c) ∗ G c))
    ⊢ (iprop(bigSep Finset.univ (base m) ∗ (bigSep Finset.univ fun c : Dev nD => semVal (kc 0 c) 0) ∗ bigSep Finset.univ G) : sProp 𝕄) := by
  rw [← bigSep_sep' _ _ G, ← bigSep_sep' _ (base m)]
  exact bigSep_mono fun c _ => core_intro m ρ c

theorem init :
    iprop((bigSep Finset.univ fun c : Dev nD => iprop(unscopedBufs c (fun b => m ((c : Thread nD τ).loc b)) ∗ unscopedSems0 c
          ∗ owes (c : Thread nD τ) (debt allL c) ∅ ∗ Pipeline.launchCred (debt allL) c ∗ prngReg c (ρ c) ∗ G c)) ∗ levAts L lv)
      ⊢ (|={Set.univ}=> bigSep Finset.univ (T₀ m) : sProp 𝕄) := by
  iintro ⟨H, -⟩
  ihave H' := (cores_intro m ρ) $$ H
  icases H' with ⟨HB, Hv, HG⟩
  ihave Hu := (show bigSep Finset.univ (G (F := F)) ⊢ BI.own (ER (launchOf barCells scCells allToks)) from
    Entails.of_eq (bigSep_atZero (F := F) (BI.own (ER (launchOf barCells scCells allToks))))) $$ HG
  imod (Rounds.fund_launch ER (Rd m) disjoint_cells (fun g _ h => h) allToks) $$ [Hv Hu] with ⟨%κ, -, #Hinv, #Hr, Hat, Hopen, Htok⟩
  · isplitl [Hv]
    · rw [bar_eq]; iexact Hv
    · iexact Hu
  imodintro
  iapply (bigSep_with_persistent (R := records m κ) (Φ := fun c => iprop(own1 c ∗ base m c)) fun c _ => T₀_intro m κ c)
  isplitr
  · unfold records
    isplitr; · iapply (inv_all m κ); iexact Hinv
    iapply (Entails.of_eq (bar_eq (fun g => (reached ER g 0 : sProp 𝕄)))); iexact Hr
  rw [bigSep_sep']
  isplitr [HB]
  · unfold own1
    rw [bigSep_sep', bigSep_sep']
    isplitl [Hat]; · iapply (Entails.of_eq (bar_eq (fun g => (atPos ER g 0 ∅ 0 : sProp 𝕄)))); iexact Hat
    isplitl [Hopen]; · iapply (Entails.of_eq (open_deal (F := F))); iexact Hopen
    iapply (Entails.of_eq (toks_deal (F := F))); iexact Htok
  iexact HB

/-! ## The segments -/

theorem hostOps_in : ∀ op ∈ (hostOps0 : List (HloOp τ sig (Elt F))), op.bufs ⊆ bufs := fun op h => by
  rw [List.mem_singleton.mp h]
  show ({Proc.devRef .tc main_arg0, Proc.devRef .tc main_v1} : Finset (DevRef τ sig)) ⊆ bufs
  decide
theorem hostOps_new : ∀ op ∈ (hostOps0 : List (HloOp τ sig (Elt F))), op.fresh = ∅ := List.forall_iff_forall_mem.mp hostOps0_fresh

/-- The host's reshape of the tokens. -/
def seg0 : Pipeline.HostSeg (Name := ℕ) (U := UU) (pcfgs (F := F)) (defs₀ (F := F)) 𝒱₀ L lv :=
  Pipeline.HostSeg.ofOps _ _ _ _ _ bufs hostOps0 hostOps_in hostOps_new (V₀ m) (ride m)

def segs : List (Pipeline.Seg (pcfgs (F := F)) adm (pdats m) () defs₀ 𝒱₀ L lv) := [.host (seg0 m), .region (reg m)]

theorem reg_pre : iprop(StableHlo.held (c : Thread nD τ) bufs (V₁ m c) ∗ ride m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Hs (V₁ m c) ∗ emp) ∗ Tk m c ∗ ∃ Wd, owes (c : Thread nD τ) (0 + debt allL c) Wd)
  rw [arrs_eq, bufs_eq, hs_eq, zero_add]
  unfold ride owesE
  iintro ⟨⟨H0, H1, H2, H3⟩, HT, HO, Hp⟩
  isplitl [H0 H2 H3]
  · isplitl [H0]; · iexact H0
    isplitl [H2] <;> iassumption
  isplitl [Hp]; · iexact Hp
  isplitl [H1]
  · isplitl [H1]; · iexact H1
    iempintro
  isplitl [HT]; · iexact HT
  iexact HO

theorem reg_post : (reg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) Hs (V₂ m c) ∗ emp) ∗ Yk c ∗ ∃ Wd, owes (c : Thread nD τ) (0 : CellTallies nD τ sig Unit) Wd) ⊢ _
  unfold Tₙ Yk
  rw [arrs_eq, bufs_eq, hs_eq]
  iintro ⟨⟨H0, H2, H3⟩, -, ⟨H1, -⟩, Hb, HO⟩
  isplitr [HO]
  · isplitr [Hb]
    · isplitl [H0]; · iexact H0
      isplitl [H1]; · iexact H1
      isplitl [H2] <;> iassumption
    iexact Hb
  iexact HO

theorem main_eq (c : Dev nD) : main (F := F) c = Pipeline.Seg.run (segs m) :=
  main_segs adm (pdats m) () 𝒱₀ L lv (seg0 m) (reg m) rfl c

theorem unscoped_eq : ∀ sm : SemLoc sig, sm.isScoped .tc = false → sm = ksem 0 := by decide

set_option backward.isDefEq.respectTransparency.types false in
/-- Every run of @main ends with the arguments unchanged, the result at the gathered rows and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outV m (yOf c)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := debt allL) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v2) = V₂ m c main_v2) ∧ s.sem (kc 0 c) = 0)
    (hfin := fun c s' => by
      dsimp only [Tₙ]; rw [bufs_eq]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        exact ⟨h0.trans ((V₂_of m c main_arg0 (by decide)).trans (V_main_arg0 m c)),
          h1.trans ((V₂_of m c main_arg1 (by decide)).trans (V_main_arg1 m c)), h2.trans (V₂_out m c)⟩,
      sem_eq_zero hs fun c sm hsm => by
        obtain rfl := unscoped_eq sm hsm
        exact (h c).2⟩)

end Cert.Take

end
-- ==== Proof.Take.Same.lean ====
/-
# The two texts of the kernel

The program over words and the program over the extended reals have the same text, so the body tables and the main functions are
the same for any float values.
-/
module

public import proofs.«01_k».proof.Defs
public import proofs.«01_k».proof.Proof.Gen.Kernel
public import proofs.«01_k».proof.Proof.Gen.KernelIdeal

@[expose] public section

noncomputable section

namespace Cert.Take

open Idealize.ShloMosaic Idealize.ShloMosaic.TcCoe Idealize.SL.Sem

variable {F : FTy → Type} [FloatOps F]

/-- The main functions are one. -/
theorem same_main : Cert.Kernel.main (F := F) = Cert.KernelIdeal.main (F := F) := rfl

set_option maxHeartbeats 1000000 in
/-- The bodies are one. -/
theorem same_body : Cert.Kernel.cc0_body (F := F) = Cert.KernelIdeal.cc0_body (F := F) := rfl

/-- The kernels' body tables are one. -/
theorem same_defs₀ : Cert.Kernel.defs₀ (F := F) = Cert.KernelIdeal.defs₀ (F := F) := by
  unfold Cert.Kernel.defs₀ Cert.KernelIdeal.defs₀
  congr 1
  funext l x
  match l, x with
  | 0, (t, s) => exact congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _
  | ⟨_ + 1, h⟩, _ => exact absurd h (Nat.not_lt.2 (Nat.le_add_left _ _))

/-- The body tables are one. -/
theorem same_defs : Cert.Kernel.defs (F := F) = Cert.KernelIdeal.defs (F := F) := by
  unfold Cert.Kernel.defs Cert.KernelIdeal.defs
  rw [same_defs₀]
  rfl

end Cert.Take

end
-- ==== Proof.Take.Value.lean ====
/-
# The kernel's result over the extended reals

Where every id lies in the table, row `i` of the result is the table's row at id `i`: of the two devices that handle the
token, the one whose half of the table holds the row contributes it and the other contributes zero.
-/
module

public import proofs.«01_k».proof.Proof.Take.Contents
public import Idealize.ShloMosaic.Lib.StableHlo.Predicate

public import Idealize.ShloMosaic.Lib.IdealHost
public import Idealize.ShloMosaic.Lib.Layout
public import Idealize.ShloMosaic.Lib.ValueLayoutCasts
public import Idealize.ShloMosaic.Lib.Claim

@[expose] public section

noncomputable section

namespace Cert.Take

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Ids and the halves of the table -/

/-- The first row of a device's half. -/
theorem vlo_eq (c : Dev nD) : vlo c = BitVec.ofNat 32 (16384 * (yOf c).val) := by revert c; decide

theorem vlo_toNat (c : Dev nD) : (vlo c).toNat = 16384 * (yOf c).val := by revert c; decide

theorem vhi_toNat (c : Dev nD) : (Scalar.addi (vlo c) 16384#32).toNat = 16384 * (yOf c).val + 16384 := by revert c; decide

/-- The mask's bit: the id lies in the device's half. -/
theorem mask_iff (c : Dev nD) (w : BitVec 32) (h : w.toNat < 32768) :
    IntOp.andi (IntOp.cmpi .sge w (vlo c)) (IntOp.cmpi .slt w (Scalar.addi (vlo c) 16384#32)) = 1#1 ↔ w.toNat / 16384 = (yOf c).val := by
  have h1 := vlo_toNat c
  have h2 := vhi_toNat c
  have hy := (yOf c).isLt
  rw [IntOp.andi_eq_one, StableHlo.Predicate.sge_iff_toNat (by omega) (by omega), StableHlo.Predicate.slt_iff_toNat (by omega) (by omega), h1, h2]
  omega

/-- For an id in its half a device fetches the id's row. -/
theorem rowOf_val (c : Dev nD) (w : BitVec 32) (h : w.toNat < 32768) (hy : w.toNat / 16384 = (yOf c).val) :
    (rowOf c w).val = w.toNat % 16384 := by
  have h1 := vlo_toNat c
  have hs : (w - vlo c).toNat = w.toNat % 16384 := by rw [BitVec.toNat_sub]; omega
  have hg : IntOp.andi (IntOp.cmpi .sge (w - vlo c) 0#32) (IntOp.cmpi .slt (w - vlo c) 16384#32) = 1#1 := by
    rw [IntOp.andi_eq_one, StableHlo.Predicate.sge_iff_toNat (by omega) (by decide), StableHlo.Predicate.slt_iff_toNat (by omega) (by decide), hs]
    exact ⟨Nat.zero_le _, Nat.mod_lt _ (by decide)⟩
  show (if IntOp.andi (IntOp.cmpi .sge (w - vlo c) 0#32) (IntOp.cmpi .slt (w - vlo c) 16384#32) = 1#1 then w - vlo c else 0#32).toNat = _
  rw [if_pos hg, hs]

/-! ## The payloads at an element -/

/-- A column laid along every column of a rectangle. -/
theorem bcast_col {α : Type} (v : S512x1.Idx → α) (h : S512x1.Broadcasts S512x1024) (t : Fin 512) (j : Fin 1024) :
    broadcastTo S512x1024 v h (ix2 t j) = v (ix2 t (0 : Fin 1)) := by
  refine broadcastTo_apply v h (ix2 t j) (ix2 t (0 : Fin 1)) fun ax => ?_
  match ax with
  | ⟨0, _⟩ => rfl
  | ⟨1, _⟩ => rfl

/-- The masked rows at an element. -/
theorem pay1_apply (v : BitVec 32) (ids : S512x1.Idx → BitVec 32) (g : S512x1024.Idx → Ideal .f32) (t : Fin 512) (j : Fin 1024) :
    k0_pay1 (F := Ideal) v ids g (ix3 (0 : Fin 1) t j)
      = if IntOp.andi (IntOp.cmpi .sge (ids (ix2 t 0)) v) (IntOp.cmpi .slt (ids (ix2 t 0)) (Scalar.addi v 16384#32)) = 1#1 then g (ix2 t j) else (0 : EReal) := by
  unfold k0_pay1
  simp only [shapeCast_self]
  rw [shapeCast_ab_1ab_apply]
  show (if broadcastTo S512x1024 _ _ (ix2 t j) = 1#1 then g (ix2 t j) else Ideal.ofBits .f32 0x00000000#32) = _
  rw [bcast_col, Ideal.ofBits_zero_f32]
  rfl

/-- The sum at an element. -/
theorem pay2_apply (a : S1x512x1024.Idx → Ideal .bf16) (b : S512x1024.Idx → Ideal .bf16) (t : Fin 512) (j : Fin 1024) :
    k0_pay2 (F := Ideal) a b (ix3 (0 : Fin 1) t j) = (a (ix3 (0 : Fin 1) t j) + b (ix2 t j) : EReal) := by
  unfold k0_pay2
  simp only [shapeCast_self]
  show (a (ix3 (0 : Fin 1) t j) + shapeCast S1x512x1024 b _ (ix3 (0 : Fin 1) t j) : EReal) = _
  rw [shapeCast_ab_1ab_apply]

/-- The widening at an element. -/
theorem pay3_apply (a : S1x512x1024.Idx → Ideal .bf16) (t : Fin 512) (j : Fin 1024) :
    k0_pay3 (F := Ideal) a (ix2 t j) = a (ix3 (0 : Fin 1) t j) := by
  unfold k0_pay3
  show shapeCast S512x1024 a _ (ix2 t j) = _
  rw [shapeCast_1ab_ab_apply]

/-! ## The result -/

variable (m : (ℓ : Loc nD τ sig) → Buf (Elt Ideal) ℓ)
variable (ids : S2048.Idx → BitVec 32) (E : (⟨2, ![32768, 1024]⟩ : Shape).Idx → EReal)

/-- The launch: every device has the ids and its half of the table. -/
structure Laid : Prop where
  ids_eq : ∀ c : Dev nD, m ((c : Thread nD τ).loc main_arg0) = ids
  row_eq : ∀ (c : Dev nD) (r : Fin 16384) (j : Fin 1024), m ((c : Thread nD τ).loc main_arg1) (ix2 r j)
    = E (ix2 ⟨16384 * (yOf c).val + r.val, by have := (yOf c).isLt; omega⟩ j)
  in_range : ∀ i : Fin 2048, (ids (ix1 i)).toNat < 32768

variable {m ids E}

/-- The ids' column holds the ids. -/
theorem idcol_apply (L : Laid m ids E) (c : Dev nD) (t : Fin 512) : idcol m c (ix2 t (0 : Fin 1)) = ids (ix1 (tok c t)) := by
  show V m c main_v1 (ix2 (tok c t) (0 : Fin 1)) = _
  rw [← L.ids_eq c]
  entry_read
  exact shapeCast_a_a1_apply _ _ _ _

/-- A device's partial row: the table's row for an id in its half, zero otherwise. -/
theorem partV_apply (L : Laid m ids E) (c : Dev nD) (t : Fin 512) (j : Fin 1024) :
    partV m c (ix3 (0 : Fin 1) t j)
      = if (ids (ix1 (tok c t))).toNat / 16384 = (yOf c).val then E (ix2 ⟨(ids (ix1 (tok c t))).toNat, L.in_range _⟩ j) else 0 := by
  have hr := L.in_range (tok c t)
  unfold partV
  rw [pay1_apply, idcol_apply L]
  by_cases hy : (ids (ix1 (tok c t))).toNat / 16384 = (yOf c).val
  · rw [if_pos ((mask_iff c _ hr).mpr hy), if_pos hy]
    show V m c main_arg1 (ix2 (rowOf c (V m c main_arg0 (ix1 (tok c t)))) j) = _
    rw [V_main_arg0, V_main_arg1, L.ids_eq c, L.row_eq c]
    congr 2
    apply Fin.ext
    show 16384 * (yOf c).val + (rowOf c (ids (ix1 (tok c t)))).val = (ids (ix1 (tok c t))).toNat
    rw [rowOf_val c _ hr hy]
    omega
  · rw [if_neg (fun e => hy ((mask_iff c _ hr).mp e)), if_neg hy]

theorem tok_nb1 (c : Dev nD) (t : Fin 512) : tok (nb 1 c) t = tok c t := by
  unfold tok; simp only [qOf_nb1]

/-- A device's row after the exchange: the table's row, whichever half holds it. -/
theorem sumV_apply (L : Laid m ids E) (c : Dev nD) (t : Fin 512) (j : Fin 1024) :
    sumV m c (ix3 (0 : Fin 1) t j) = E (ix2 ⟨(ids (ix1 (tok c t))).toNat, L.in_range _⟩ j) := by
  have hr := L.in_range (tok c t)
  unfold sumV
  rw [pay2_apply]
  show partV m c (ix3 (0 : Fin 1) t j) + partV m (nb 1 c) (ix3 (0 : Fin 1) t j) = _
  rw [partV_apply L, partV_apply L]
  simp only [tok_nb1, yOf_nb1]
  generalize E (ix2 ⟨(ids (ix1 (tok c t))).toNat, L.in_range _⟩ j) = x
  generalize (ids (ix1 (tok c t))).toNat = w at hr
  have hy2 : ∀ y : Fin 2, (y.val = 0 ∧ (1 - y).val = 1) ∨ (y.val = 1 ∧ (1 - y).val = 0) := by decide
  have hq : w / 16384 = 0 ∨ w / 16384 = 1 := by omega
  rcases hy2 (yOf c) with ⟨e1, e2⟩ | ⟨e1, e2⟩ <;> rcases hq with hq | hq <;> simp only [e1, e2, hq, if_true, one_ne_zero, zero_ne_one, if_false, add_zero, zero_add]

/-- The result on every device: row `i` is the table's row at id `i`. -/
theorem outV_apply (L : Laid m ids E) (y : Fin 2) (i : Fin 2048) (j : Fin 1024) :
    outV m y (ix2 i j) = E (ix2 ⟨(ids (ix1 i)).toNat, L.in_range i⟩ j) := by
  unfold outV
  rw [pay3_apply]
  show sumV m (mkDev (⟨i.val / 512, _⟩ : Fin 4) y) (ix3 (0 : Fin 1) (⟨i.val % 512, _⟩ : Fin 512) j) = _
  rw [sumV_apply L]
  have e : tok (mkDev (⟨i.val / 512, by omega⟩ : Fin 4) y) ⟨i.val % 512, Nat.mod_lt _ (by decide)⟩ = i := by
    apply Fin.ext
    show 512 * (qOf (mkDev _ y)).val + i.val % 512 = i.val
    rw [qOf_mkDev]
    show 512 * (i.val / 512) + i.val % 512 = i.val
    omega
  simp only [e]

end Cert.Take

end
-- ==== Proof.Take.Reference.lean ====
/-
# The reference's run and its result

The reference is a line of whole-array operations: a negative id has the table's length added, and the result's rows are the
table's rows at the ids. This module states what it leaves, and that for an id in the table the row is the table's row.
-/
module

public import proofs.«01_k».proof.ReferenceIdeal
public import proofs.«01_k».proof.Proof.Gen.ReferenceIdeal
public import Idealize.ShloMosaic.Lib.StableHlo.Run
public import Idealize.ShloMosaic.Lib.StableHlo.Predicate
public import Idealize.ShloMosaic.Lib.Quiescent
public import Idealize.ShloMosaic.Lib.Routing.Ops
public import Idealize.ShloMosaic.Lib.Claim
public import Idealize.ShloMosaic.Lib.ValueLayout

@[expose] public section

noncomputable section

namespace Cert.Take.Ref

open Cert.ReferenceIdeal Cert.ReferenceIdeal.Gen
open Idealize.ShloMosaic
open Idealize.ShloMosaic.TcCoe Idealize.ShloMosaic.StableHlo Idealize.ShloMosaic.ValueIdx Idealize.SL.Sem

variable {F : FTy → Type} [FloatOps F]

/-- The row numbers the reference takes: the ids, the table's length added to a negative one. -/
def rows (ids : IVec S2048 32) : IVec S2048 32 :=
  select (cmpi .slt ids (broadcastInDim S2048 ![] bcast_S_S2048 (constantI S_ 32 0#32)))
    (addi ids (broadcastInDim S2048 ![] bcast_S_S2048 (constantI S_ 32 32768#32))) ids

/-- The reference's result: the table's rows at those numbers. -/
def refV (ids : IVec S2048 32) (E : S32768x1024.Idx → F .f32) : S2048x1024.Idx → F .f32 :=
  Host.gather gather_S32768x1024_S2048x1_S2048x1024_1_0_n_n_0_1_11024 E (broadcastInDim S2048x1 ![0] bcast_S2048_S2048x1_0 (rows ids))

/-- For an id in the table the number is the id. -/
theorem rows_apply (ids : IVec S2048 32) (i : Fin 2048) (h : (ids (ix1 i)).toNat < 32768) : rows ids (ix1 i) = ids (ix1 i) := by
  unfold rows
  have hc : IntOp.cmpi .slt (ids (ix1 i)) 0#32 ≠ 1#1 := by
    intro e
    have := (Predicate.slt_iff_toNat (by omega) (by decide)).mp e
    exact absurd this (Nat.not_lt_zero _)
  show (if IntOp.cmpi .slt (ids (ix1 i)) 0#32 = 1#1 then _ else ids (ix1 i)) = _
  rw [if_neg hc]

/-- For an id in the table the result's row is the table's row. -/
theorem refV_apply (ids : IVec S2048 32) (E : S32768x1024.Idx → F .f32) (i : Fin 2048) (j : Fin 1024)
    (h : (ids (ix1 i)).toNat < 32768) : refV ids E (ix2 i j) = E (ix2 ⟨(ids (ix1 i)).toNat, h⟩ j) := by
  unfold refV
  refine Routing.gather_row _ rfl rfl rfl rfl rfl E _ i j ⟨(ids (ix1 i)).toNat, h⟩ ?_ (by decide)
  have e : broadcastInDim S2048x1 ![0] bcast_S2048_S2048x1_0 (rows ids) (ix2 i (0 : Fin 1)) = rows ids (ix1 i) := by
    simp only [broadcastInDim]
    congr 1
    funext a
    match a with
    | ⟨0, _⟩ => rfl
  rw [e, rows_apply ids i h]
  exact ((BitVec.ofNat_toNat 32 _).trans (BitVec.setWidth_eq _)).symm

/-- The reference's operations, in order. -/
abbrev ops : List (HloOp τ sig (Elt F)) :=
  [ nullary main_c (constantI S_ 32 0#32),
    unary main_c main_v0 (broadcastInDim S2048 ![] bcast_S_S2048),
    binary main_arg0 main_v0 main_v1 (cmpi .slt),
    nullary main_c_0 (constantI S_ 32 32768#32),
    unary main_c_0 main_v2 (broadcastInDim S2048 ![] bcast_S_S2048),
    binary main_arg0 main_v2 main_v3 addi,
    ternary main_v1 main_v3 main_arg0 main_v4 select,
    unary main_v4 main_v5 (broadcastInDim S2048x1 ![0] bcast_S2048_S2048x1_0),
    binary main_arg1 main_v5 main_v6 (fun x i => Host.gather gather_S32768x1024_S2048x1_S2048x1024_1_0_n_n_0_1_11024 x i) ]

theorem main_eq (c : Dev nD) : main (F := F) c = seq ops := rfl

/-- The result's buffer after the operations. -/
theorem out_eq (W : Valuation τ sig (Elt F)) :
    after ops W (main_v6 : DevRef τ sig) = refV (W (main_arg0 : DevRef τ sig)) (W (main_arg1 : DevRef τ sig)) := by
  after_results
  rfl
theorem arg0_eq (W : Valuation τ sig (Elt F)) : after ops W (main_arg0 : DevRef τ sig) = W (main_arg0 : DevRef τ sig) := by
  after_results
theorem arg1_eq (W : Valuation τ sig (Elt F)) : after ops W (main_arg1 : DevRef τ sig) = W (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

/-- The reference runs, leaves its result and its arguments unchanged, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = refV (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v6).trans (out_eq _), (h c main_arg0).trans (arg0_eq _), (h c main_arg1).trans (arg1_eq _)⟩,
      sem_eq_zero_of_no_sems rfl r.2⟩)
    (run_seq scopedRefs_eq scopedSems_eq defs main (fun _ => ops) main_eq (fun _ => ops_sub) m ρ)

end Cert.Take.Ref

end
-- ==== Proof.lean ====
/-
# The claims

The kernel runs, faults nowhere, leaves its arguments unchanged and every semaphore counter at zero, for any float values; so
does the reference; and over the extended reals, where every id lies in the table, both end with the table's rows at the ids.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Take.Run
public import proofs.«01_k».proof.Proof.Take.Same
public import proofs.«01_k».proof.Proof.Take.Value
public import proofs.«01_k».proof.Proof.Take.Reference
public import Idealize.ShloMosaic.Lib.ReduceAll
public import Idealize.ShloMosaic.Lib.WordArith
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-! ## The precondition -/

/-- The side conditions of the precondition's operations, read of a device's blocks. -/
theorem pre_facts : Cert.Pre_ids_in_range_KernelIdeal.Facts where
  bcast_S_S2048 := by decide
  reducesTo_S2048_S_d0 := by decide
  h_S_ := by decide

/-- The same, read of the whole arrays. -/
theorem pre_facts_ref : Cert.Pre_ids_in_range_ReferenceIdeal.Facts where
  bcast_S_S2048 := by decide
  reducesTo_S2048_S_d0 := by decide
  h_S_ := by decide

/-- The precondition says that each id, as a natural number, is below the table's length. -/
theorem ids_lt (ids : IVec Cert.Pre_ids_in_range_KernelIdeal.S2048 32) (E : FVec Ideal Cert.Pre_ids_in_range_KernelIdeal.S16384x1024 .f32)
    (h : @Cert.Pre_ids_in_range_KernelIdeal.fn pre_facts Ideal _ ids E = fun _ => 1#1) (i : Fin 2048) :
    (ids (ix1 i)).toNat < 32768 := by
  have e := congrFun h (fun a => a.elim0)
  dsimp only [Cert.Pre_ids_in_range_KernelIdeal.fn] at e
  haveI : Subsingleton Cert.Pre_ids_in_range_KernelIdeal.S_.Idx := ⟨fun a b => funext fun x => x.elim0⟩
  have e' := Host.reduce_andi_all _ _ _ _ _ e (ix1 i)
  have e'' : IntOp.andi (IntOp.cmpi .sge (ids (ix1 i)) 0#32) (IntOp.cmpi .slt (ids (ix1 i)) 32768#32) = 1#1 := e'
  rw [IntOp.andi_eq_one, IntOp.cmpi_sge, IntOp.cmpi_slt] at e''
  have h0 : (0#32 : BitVec 32).toInt = 0 := by decide
  have h1 : (32768#32 : BitVec 32).toInt = 32768 := by decide
  rw [h0, h1, BitVec.toInt_eq_toNat_cond] at e''
  omega

/-! ## The frames -/

/-- The kernel's frame. -/
theorem frame_kernel : Cert.quiescent_Kernel := fun m ρ _ => by
  have h := (θ_run Cert.KernelIdeal.defs _ _).mono
    (Q' := fun r => (∀ c : Dev Cert.KernelIdeal.nD,
      r.2.mem ((c.tc : Thread Cert.KernelIdeal.nD Cert.KernelIdeal.τ).loc Cert.KernelIdeal.main_arg0) = m ((c.tc : Thread Cert.Kernel.nD Cert.Kernel.τ).loc Cert.Kernel.main_arg0)
      ∧ r.2.mem ((c.tc : Thread Cert.KernelIdeal.nD Cert.KernelIdeal.τ).loc Cert.KernelIdeal.main_arg1) = m ((c.tc : Thread Cert.Kernel.nD Cert.Kernel.τ).loc Cert.Kernel.main_arg1))
      ∧ r.2.sem = fun _ => 0)
    (fun _ h => ⟨fun c => ⟨(h.1 c).1, (h.1 c).2.1⟩, h.2⟩) (Cert.Take.run_main (F := Bits) m ρ)
  rw [Cert.Take.same_defs, Cert.Take.same_main]
  exact h

/-- Its frame over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.Take.run_main (F := Ideal) m ρ)

/-- The reference's frame. -/
theorem frame_reference : Cert.quiescent_ReferenceIdeal := fun m ρ _ =>
  (θ_run Cert.ReferenceIdeal.defs _ _).mono (fun _ h => ⟨fun c => (h.1 c).2, h.2⟩) (Cert.Take.Ref.run_main (F := Ideal) m ρ)

/-! ## The value -/

/-- The launch of the claim, in the words of the kernel's value. -/
theorem laid (m : (ℓ : Loc Cert.KernelIdeal.nD Cert.KernelIdeal.τ Cert.KernelIdeal.sig) → Buf (Elt Ideal) ℓ)
    (ids : Cert.KernelIdeal.S2048.Idx → BitVec 32) (E : (⟨2, ![32768, 1024]⟩ : Shape).Idx → EReal)
    (hpre : @Cert.Pre_KernelIdeal_ids_in_range_KernelIdeal pre_facts m)
    (hl : ∀ c : Dev Cert.KernelIdeal.nD, m ((c.tc : Thread Cert.KernelIdeal.nD Cert.KernelIdeal.τ).loc Cert.KernelIdeal.main_arg0) = ids
      ∧ m ((c.tc : Thread Cert.KernelIdeal.nD Cert.KernelIdeal.τ).loc Cert.KernelIdeal.main_arg1)
        = Layout.blockN ⟨2, ![16384, 1024]⟩ ⟨2, ![32768, 1024]⟩ (Layout.meshBlock [2, 2, 2] ![[1], []] c) E) :
    Cert.Take.Laid m ids E where
  ids_eq := fun c => (hl c).1
  row_eq := fun c r j => by
    rw [(hl c).2, Layout.blockN_apply]
    congr 1
    have hy : (Layout.meshLin [2, 2, 2] c.val [1]) = (Cert.Take.yOf c).val := by revert c; decide
    have hz : (Layout.meshLin [2, 2, 2] c.val []) = 0 := by revert c; decide
    funext a
    match a with
    | ⟨0, _⟩ =>
      apply Fin.ext
      show Layout.meshLin [2, 2, 2] c.val [1] * 16384 + r.val = 16384 * (Cert.Take.yOf c).val + r.val
      rw [hy, Nat.mul_comm]
    | ⟨1, _⟩ =>
      apply Fin.ext
      show Layout.meshLin [2, 2, 2] c.val [] * 1024 + j.val = j.val
      rw [hz, Nat.zero_mul, Nat.zero_add]
  in_range := fun i => by
    have e := ids_lt _ _ (hpre 0) i
    rw [(hl 0).1] at e
    exact e

/-- Where every id lies in the table, every device's result is the reference's. -/
theorem value : Cert.algebraic_KernelIdeal_ReferenceIdeal_pre_ids_in_range_KernelIdeal (hPre_ids_in_range_KernelIdeal := pre_facts) :=
  fun m ρ m' ρ' hpre hl => by
  have L := laid m _ _ hpre hl
  refine ⟨Cert.Take.Ref.refV (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩) (Cert.Take.run_main (F := Ideal) m ρ)
    funext p
    obtain ⟨i, j, rfl⟩ : ∃ i j, p = ix2 i j := ⟨_, _, eq_ix2 p⟩
    exact (Cert.Take.outV_apply L _ i j).trans (Cert.Take.Ref.refV_apply (F := Ideal) _ (m' (((0 : Dev Cert.ReferenceIdeal.nD).tc : Thread Cert.ReferenceIdeal.nD Cert.ReferenceIdeal.τ).loc Cert.ReferenceIdeal.main_arg1)) i j (L.in_range i)).symm
  · exact (θ_run Cert.ReferenceIdeal.defs _ _).mono (fun _ h => h.1 0) (Cert.Take.Ref.run_main (F := Ideal) m' ρ')

/-- Everything the certificate claims. -/
theorem claim : Cert.Claim :=
  ⟨Cert.Kernel.Gen.facts, Cert.KernelIdeal.Gen.facts, Cert.ReferenceIdeal.Gen.facts, pre_facts, pre_facts_ref,
    frame_kernel, frame_kernelIdeal, fun m ρ _ => frame_kernelIdeal m ρ trivial, frame_reference, fun m ρ _ => frame_reference m ρ trivial,
    trivial, value⟩

end Cert.Proof

end
